-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S1x2048x1024 : Shape := ⟨3, ![1, 2048, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S8x1024x1024 : Shape := ⟨3, ![8, 1024, 1024]⟩
abbrev S8x1024 : Shape := ⟨2, ![8, 1024]⟩
abbrev S_ : Shape := ⟨0, ![]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x1x1024 : Shape := ⟨3, ![1, 1, 1024]⟩
abbrev S1x2048x16x64 : Shape := ⟨4, ![1, 2048, 16, 64]⟩
abbrev S1x2048x16x32 : Shape := ⟨4, ![1, 2048, 16, 32]⟩
abbrev S1x16x2048x64 : Shape := ⟨4, ![1, 16, 2048, 64]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩
abbrev S1x2048x8 : Shape := ⟨3, ![1, 2048, 8]⟩
abbrev S1x1x8 : Shape := ⟨3, ![1, 1, 8]⟩
abbrev S1x2048 : Shape := ⟨2, ![1, 2048]⟩
abbrev S1x2048x1 : Shape := ⟨3, ![1, 2048, 1]⟩
abbrev S1x2048x1x8 : Shape := ⟨4, ![1, 2048, 1, 8]⟩
abbrev S1x2048x8x1 : Shape := ⟨4, ![1, 2048, 8, 1]⟩
abbrev S1x2048x8x8 : Shape := ⟨4, ![1, 2048, 8, 8]⟩
abbrev S8x1 : Shape := ⟨2, ![8, 1]⟩
abbrev S1x8 : Shape := ⟨2, ![1, 8]⟩
abbrev S8x8 : Shape := ⟨2, ![8, 8]⟩
abbrev S1x1x8x8 : Shape := ⟨4, ![1, 1, 8, 8]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S32 : S_.BroadcastsInDim S32 (![] : Fin 0 → Fin S32.rank)
  bcast_S2048_S2048x1_0 : S2048.BroadcastsInDim S2048x1 (![0] : Fin 1 → Fin S2048x1.rank)
  bcast_S32_S1x32_1 : S32.BroadcastsInDim S1x32 (![1] : Fin 1 → Fin S1x32.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  concatenates_S2048x32_S2048x32_S2048x64_d1 : Shape.Concatenates [S2048x32, S2048x32] S2048x64 1
  bcast_S2048x64_S1x2048x1x64_1_3 : S2048x64.BroadcastsInDim S1x2048x1x64 (![1, 3] : Fin 2 → Fin S1x2048x1x64.rank)
  bcast_S1024_S1x1x1024_2 : S1024.BroadcastsInDim S1x1x1024 (![2] : Fin 1 → Fin S1x1x1024.rank)
  bcast_S1x1x1024_S1x2048x1024_0_1_2 : S1x1x1024.BroadcastsInDim S1x2048x1024 (![0, 1, 2] : Fin 3 → Fin S1x2048x1024.rank)
  shapeCasts_S1x2048x1024_S1x2048x16x64 : S1x2048x1024.ShapeCasts S1x2048x16x64
  bcast_S1x2048x1x64_S1x2048x16x64_0_1_2_3 : S1x2048x1x64.BroadcastsInDim S1x2048x16x64 (![0, 1, 2, 3] : Fin 4 → Fin S1x2048x16x64.rank)
  slices_S1x2048x16x64_S1x2048x16x32_0_0_0_32 : S1x2048x16x64.Slices ![0, 0, 0, 32] S1x2048x16x32
  slices_S1x2048x16x64_S1x2048x16x32_0_0_0_0 : S1x2048x16x64.Slices ![0, 0, 0, 0] S1x2048x16x32
  concatenates_S1x2048x16x32_S1x2048x16x32_S1x2048x16x64_d3 : Shape.Concatenates [S1x2048x16x32, S1x2048x16x32] S1x2048x16x64 3
  transposes_S1x2048x16x64_S1x16x2048x64_0_2_1_3 : S1x2048x16x64.Transposes [0, 2, 1, 3] S1x16x2048x64
  bcast_S_S1x16x2048x2048 : S_.BroadcastsInDim S1x16x2048x2048 (![] : Fin 0 → Fin S1x16x2048x2048.rank)
  reducesTo_S1x16x2048x2048_S1x16x2048_d3 : S1x16x2048x2048.ReducesTo [3] S1x16x2048
  bcast_S_S1x16x2048 : S_.BroadcastsInDim S1x16x2048 (![] : Fin 0 → Fin S1x16x2048.rank)
  bcast_S1x16x2048_S1x16x2048x1_0_1_2 : S1x16x2048.BroadcastsInDim S1x16x2048x1 (![0, 1, 2] : Fin 3 → Fin S1x16x2048x1.rank)
  bcast_S1x16x2048x1_S1x16x2048x2048_0_1_2_3 : S1x16x2048x1.BroadcastsInDim S1x16x2048x2048 (![0, 1, 2, 3] : Fin 4 → Fin S1x16x2048x2048.rank)
  transposes_S1x16x2048x64_S1x2048x16x64_0_2_1_3 : S1x16x2048x64.Transposes [0, 2, 1, 3] S1x2048x16x64
  shapeCasts_S1x2048x16x64_S1x2048x1024 : S1x2048x16x64.ShapeCasts S1x2048x1024
  bcast_S8_S1x1x8_2 : S8.BroadcastsInDim S1x1x8 (![2] : Fin 1 → Fin S1x1x8.rank)
  bcast_S1x1x8_S1x2048x8_0_1_2 : S1x1x8.BroadcastsInDim S1x2048x8 (![0, 1, 2] : Fin 3 → Fin S1x2048x8.rank)
  reducesTo_S1x2048x8_S1x2048_d2 : S1x2048x8.ReducesTo [2] S1x2048
  bcast_S_S1x2048 : S_.BroadcastsInDim S1x2048 (![] : Fin 0 → Fin S1x2048.rank)
  bcast_S1x2048_S1x2048x1_0_1 : S1x2048.BroadcastsInDim S1x2048x1 (![0, 1] : Fin 2 → Fin S1x2048x1.rank)
  bcast_S1x2048x1_S1x2048x8_0_1_2 : S1x2048x1.BroadcastsInDim S1x2048x8 (![0, 1, 2] : Fin 3 → Fin S1x2048x8.rank)
  bcast_S1x2048x8_S1x2048x1x8_0_1_3 : S1x2048x8.BroadcastsInDim S1x2048x1x8 (![0, 1, 3] : Fin 3 → Fin S1x2048x1x8.rank)
  bcast_S1x2048x8_S1x2048x8x1_0_1_2 : S1x2048x8.BroadcastsInDim S1x2048x8x1 (![0, 1, 2] : Fin 3 → Fin S1x2048x8x1.rank)
  bcast_S1x2048x1x8_S1x2048x8x8_0_1_2_3 : S1x2048x1x8.BroadcastsInDim S1x2048x8x8 (![0, 1, 2, 3] : Fin 4 → Fin S1x2048x8x8.rank)
  bcast_S1x2048x8x1_S1x2048x8x8_0_1_2_3 : S1x2048x8x1.BroadcastsInDim S1x2048x8x8 (![0, 1, 2, 3] : Fin 4 → Fin S1x2048x8x8.rank)
  natLt_1_32 : 1 < 32
  reducesTo_S1x2048x8x8_S1x2048x8_d3 : S1x2048x8x8.ReducesTo [3] S1x2048x8
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S8x8_S1x1x8x8_2_3 : S8x8.BroadcastsInDim S1x1x8x8 (![2, 3] : Fin 2 → Fin S1x1x8x8.rank)
  bcast_S1x1x8x8_S1x2048x8x8_0_1_2_3 : S1x1x8x8.BroadcastsInDim S1x2048x8x8 (![0, 1, 2, 3] : Fin 4 → Fin S1x2048x8x8.rank)
  bcast_S_S1x2048x8x1 : S_.BroadcastsInDim S1x2048x8x1 (![] : Fin 0 → Fin S1x2048x8x1.rank)
  bcast_S_S1x2048x8x8 : S_.BroadcastsInDim S1x2048x8x8 (![] : Fin 0 → Fin S1x2048x8x8.rank)
  dot_S1x2048x1024_S1024x1024_S1x2048x1024_2_0_01_1_n_n_wf : DotDims.WF S1x2048x1024 S1024x1024 S1x2048x1024 [2] [0] [0, 1] [1] [] []
  dot_S1x16x2048x64_S1x16x2048x64_S1x16x2048x2048_3_3_2_2_01_01_wf : DotDims.WF S1x16x2048x64 S1x16x2048x64 S1x16x2048x2048 [3] [3] [2] [2] [0, 1] [0, 1]
  dot_S1x16x2048x2048_S1x16x2048x64_S1x16x2048x64_3_2_2_3_01_01_wf : DotDims.WF S1x16x2048x2048 S1x16x2048x64 S1x16x2048x64 [3] [2] [2] [3] [0, 1] [0, 1]
  dot_S1x2048x1024_S1024x8_S1x2048x8_2_0_01_1_n_n_wf : DotDims.WF S1x2048x1024 S1024x8 S1x2048x8 [2] [0] [0, 1] [1] [] []

variable [Facts]

def dot_S1x2048x1024_S1024x1024_S1x2048x1024_2_0_01_1_n_n : DotDims S1x2048x1024 S1024x1024 S1x2048x1024 where
  lhsContracting := [2]
  rhsContracting := [0]
  lhsNonContracting := [0, 1]
  rhsNonContracting := [1]
  lhsBatch := []
  rhsBatch := []
  wf := dot_S1x2048x1024_S1024x1024_S1x2048x1024_2_0_01_1_n_n_wf
def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf
def dot_S1x2048x1024_S1024x8_S1x2048x8_2_0_01_1_n_n : DotDims S1x2048x1024 S1024x8 S1x2048x8 where
  lhsContracting := [2]
  rhsContracting := [0]
  lhsNonContracting := [0, 1]
  rhsNonContracting := [1]
  lhsBatch := []
  rhsBatch := []
  wf := dot_S1x2048x1024_S1024x8_S1x2048x8_2_0_01_1_n_n_wf
def fn_part6 {F : FTy → Type} [FloatOps F] (main_v23 : IVec S_ 1) (main_v114 : FVec F S1x2048x8 .f32) (main_v120 : IVec S1x2048x8x8 32) (main_c_20 : IVec S_ 32) : IVec S1x2048x8x8 1 :=
  let main_v121 : IVec S1x2048x8 32 := (fun x v => Host.reduce IntOp.addi x v reducesTo_S1x2048x8x8_S1x2048x8_d3 h_S_) main_v120 main_c_20
  let main_v122 : IVec S8 32 := iotaInDim S8 32 0
  let main_v123 : FVec F S1x2048x8x1 .f32 := broadcastInDim S1x2048x8x1 ![0, 1, 2] bcast_S1x2048x8_S1x2048x8x1_0_1_2 main_v114
  let main_v124 : FVec F S1x2048x1x8 .f32 := broadcastInDim S1x2048x1x8 ![0, 1, 3] bcast_S1x2048x8_S1x2048x1x8_0_1_3 main_v114
  let main_v125 : FVec F S1x2048x8x8 .f32 := broadcastInDim S1x2048x8x8 ![0, 1, 2, 3] bcast_S1x2048x8x1_S1x2048x8x8_0_1_2_3 main_v123
  let main_v126 : FVec F S1x2048x8x8 .f32 := broadcastInDim S1x2048x8x8 ![0, 1, 2, 3] bcast_S1x2048x1x8_S1x2048x8x8_0_1_2_3 main_v124
  let main_v127 : IVec S1x2048x8x8 1 := cmpf .oeq main_v125 main_v126
  let main_v128 : IVec S8x1 32 := broadcastInDim S8x1 ![0] bcast_S8_S8x1_0 main_v122
  let main_v129 : IVec S1x8 32 := broadcastInDim S1x8 ![1] bcast_S8_S1x8_1 main_v122
  let main_v130 : IVec S8x8 32 := broadcastInDim S8x8 ![0, 1] bcast_S8x1_S8x8_0_1 main_v128
  let main_v131 : IVec S8x8 32 := broadcastInDim S8x8 ![0, 1] bcast_S1x8_S8x8_0_1 main_v129
  let main_v132 : IVec S8x8 1 := cmpi .ne main_v130 main_v131
  let main_v133 : IVec S1x1x8x8 1 := broadcastInDim S1x1x8x8 ![2, 3] bcast_S8x8_S1x1x8x8_2_3 main_v132
  let main_v134 : IVec S1x2048x8x8 1 := broadcastInDim S1x2048x8x8 ![0, 1, 2, 3] bcast_S1x1x8x8_S1x2048x8x8_0_1_2_3 main_v133
  let main_v135 : IVec S1x2048x8x8 1 := andi main_v127 main_v134
  let main_v136 : IVec S1x2048x8x8 1 := noti main_v135
  let main_v137 : IVec S1x2048x8x1 32 := broadcastInDim S1x2048x8x1 ![0, 1, 2] bcast_S1x2048x8_S1x2048x8x1_0_1_2 main_v121
  let main_c_21 : IVec S_ 32 := constantI S_ 32 2#32
  let main_v138 : IVec S1x2048x8x1 32 := broadcastInDim S1x2048x8x1 ![] bcast_S_S1x2048x8x1 main_c_21
  let main_v139 : IVec S1x2048x8x1 1 := cmpi .sge main_v137 main_v138
  let main_v140 : IVec S1x2048x8x8 1 := broadcastInDim S1x2048x8x8 ![0, 1, 2, 3] bcast_S1x2048x8x1_S1x2048x8x8_0_1_2_3 main_v139
  let main_v141 : IVec S1x2048x8x8 1 := ori main_v136 main_v140
  let main_v142 : IVec S1x2048x8x8 1 := broadcastInDim S1x2048x8x8 ![] bcast_S_S1x2048x8x8 main_v23
  let main_v143 : IVec S1x2048x8x8 1 := andi main_v142 main_v141
  main_v143

def fn_part5 {F : FTy → Type} [FloatOps F] (main_arg8 : FVec F S8 .f32) (main_v23 : IVec S_ 1) (main_v100 : FVec F S1x2048x8 .f32) : IVec S1x2048x8x8 1 :=
  let main_v101 : FVec F S1x1x8 .f32 := broadcastInDim S1x1x8 ![2] bcast_S8_S1x1x8_2 main_arg8
  let main_v102 : FVec F S1x2048x8 .f32 := broadcastInDim S1x2048x8 ![0, 1, 2] bcast_S1x1x8_S1x2048x8_0_1_2 main_v101
  let main_v103 : FVec F S1x2048x8 .f32 := addf main_v100 main_v102
  let main_cst_17 : FVec F S_ .f32 := constant S_ .f32 0xFF800000#32
  let main_v104 : FVec F S1x2048 .f32 := (fun x v => Host.reduce FloatOps.maximumf x v reducesTo_S1x2048x8_S1x2048_d2 h_S_) main_v103 main_cst_17
  let main_cst_18 : FVec F S_ .f32 := constant S_ .f32 0xFF800000#32
  let main_v105 : FVec F S1x2048 .f32 := broadcastInDim S1x2048 ![] bcast_S_S1x2048 main_cst_18
  let main_v106 : FVec F S1x2048 .f32 := maximumf main_v105 main_v104
  let main_v107 : FVec F S1x2048x1 .f32 := broadcastInDim S1x2048x1 ![0, 1] bcast_S1x2048_S1x2048x1_0_1 main_v106
  let main_v108 : FVec F S1x2048x8 .f32 := broadcastInDim S1x2048x8 ![0, 1, 2] bcast_S1x2048x1_S1x2048x8_0_1_2 main_v107
  let main_v109 : FVec F S1x2048x8 .f32 := subf main_v103 main_v108
  let main_v110 : FVec F S1x2048x8 .f32 := Host.exp main_v109
  let main_cst_19 : FVec F S_ .f32 := constant S_ .f32 0x00000000#32
  let main_v111 : FVec F S1x2048 .f32 := (fun x v => Host.reduceAdd x v reducesTo_S1x2048x8_S1x2048_d2 h_S_) main_v110 main_cst_19
  let main_v112 : FVec F S1x2048x1 .f32 := broadcastInDim S1x2048x1 ![0, 1] bcast_S1x2048_S1x2048x1_0_1 main_v111
  let main_v113 : FVec F S1x2048x8 .f32 := broadcastInDim S1x2048x8 ![0, 1, 2] bcast_S1x2048x1_S1x2048x8_0_1_2 main_v112
  let main_v114 : FVec F S1x2048x8 .f32 := Host.divf main_v110 main_v113
  let main_v115 : FVec F S1x2048x1x8 .f32 := broadcastInDim S1x2048x1x8 ![0, 1, 3] bcast_S1x2048x8_S1x2048x1x8_0_1_3 main_v114
  let main_v116 : FVec F S1x2048x8x1 .f32 := broadcastInDim S1x2048x8x1 ![0, 1, 2] bcast_S1x2048x8_S1x2048x8x1_0_1_2 main_v114
  let main_v117 : FVec F S1x2048x8x8 .f32 := broadcastInDim S1x2048x8x8 ![0, 1, 2, 3] bcast_S1x2048x1x8_S1x2048x8x8_0_1_2_3 main_v115
  let main_v118 : FVec F S1x2048x8x8 .f32 := broadcastInDim S1x2048x8x8 ![0, 1, 2, 3] bcast_S1x2048x8x1_S1x2048x8x8_0_1_2_3 main_v116
  let main_v119 : IVec S1x2048x8x8 1 := cmpf .ogt main_v117 main_v118
  let main_v120 : IVec S1x2048x8x8 32 := (extui 32 · natLt_1_32) main_v119
  let main_c_20 : IVec S_ 32 := constantI S_ 32 0#32
  fn_part6 (F := F) main_v23 main_v114 main_v120 main_c_20

def fn_part4 {F : FTy → Type} [FloatOps F] (main_arg7 : FVec F S1024x8 .f32) (main_arg8 : FVec F S8 .f32) (main_v23 : IVec S_ 1) (main_v60 : FVec F S1x2048x16x64 .f32) (main_v79 : FVec F S1x16x2048x64 .f32) (main_v80 : FVec F S1x16x2048x64 .f32) : IVec S1x2048x8x8 1 :=
  let main_v81 : FVec F S1x16x2048x64 .f32 := (transpose S1x16x2048x64 [0, 2, 1, 3] · transposes_S1x2048x16x64_S1x16x2048x64_0_2_1_3) main_v60
  let main_v82 : FVec F S1x16x2048x2048 .f32 := (fun l r => Host.dotGeneral dot_S1x16x2048x64_S1x16x2048x64_S1x16x2048x2048_3_3_2_2_01_01 none l r) main_v79 main_v80
  let main_cst_13 : FVec F S_ .f32 := constant S_ .f32 0x42800000#32
  let main_v83 : FVec F S_ .f32 := Host.sqrt main_cst_13
  let main_v84 : FVec F S1x16x2048x2048 .f32 := broadcastInDim S1x16x2048x2048 ![] bcast_S_S1x16x2048x2048 main_v83
  let main_v85 : FVec F S1x16x2048x2048 .f32 := Host.divf main_v82 main_v84
  let main_cst_14 : FVec F S_ .f32 := constant S_ .f32 0xFF800000#32
  let main_v86 : FVec F S1x16x2048 .f32 := (fun x v => Host.reduce FloatOps.maximumf x v reducesTo_S1x16x2048x2048_S1x16x2048_d3 h_S_) main_v85 main_cst_14
  let main_cst_15 : FVec F S_ .f32 := constant S_ .f32 0xFF800000#32
  let main_v87 : FVec F S1x16x2048 .f32 := broadcastInDim S1x16x2048 ![] bcast_S_S1x16x2048 main_cst_15
  let main_v88 : FVec F S1x16x2048 .f32 := maximumf main_v87 main_v86
  let main_v89 : FVec F S1x16x2048x1 .f32 := broadcastInDim S1x16x2048x1 ![0, 1, 2] bcast_S1x16x2048_S1x16x2048x1_0_1_2 main_v88
  let main_v90 : FVec F S1x16x2048x2048 .f32 := broadcastInDim S1x16x2048x2048 ![0, 1, 2, 3] bcast_S1x16x2048x1_S1x16x2048x2048_0_1_2_3 main_v89
  let main_v91 : FVec F S1x16x2048x2048 .f32 := subf main_v85 main_v90
  let main_v92 : FVec F S1x16x2048x2048 .f32 := Host.exp main_v91
  let main_cst_16 : FVec F S_ .f32 := constant S_ .f32 0x00000000#32
  let main_v93 : FVec F S1x16x2048 .f32 := (fun x v => Host.reduceAdd x v reducesTo_S1x16x2048x2048_S1x16x2048_d3 h_S_) main_v92 main_cst_16
  let main_v94 : FVec F S1x16x2048x1 .f32 := broadcastInDim S1x16x2048x1 ![0, 1, 2] bcast_S1x16x2048_S1x16x2048x1_0_1_2 main_v93
  let main_v95 : FVec F S1x16x2048x2048 .f32 := broadcastInDim S1x16x2048x2048 ![0, 1, 2, 3] bcast_S1x16x2048x1_S1x16x2048x2048_0_1_2_3 main_v94
  let main_v96 : FVec F S1x16x2048x2048 .f32 := Host.divf main_v92 main_v95
  let main_v97 : FVec F S1x16x2048x64 .f32 := (fun l r => Host.dotGeneral dot_S1x16x2048x2048_S1x16x2048x64_S1x16x2048x64_3_2_2_3_01_01 none l r) main_v96 main_v81
  let main_v98 : FVec F S1x2048x16x64 .f32 := (transpose S1x2048x16x64 [0, 2, 1, 3] · transposes_S1x16x2048x64_S1x2048x16x64_0_2_1_3) main_v97
  let main_v99 : FVec F S1x2048x1024 .f32 := shapeCast S1x2048x1024 main_v98 shapeCasts_S1x2048x16x64_S1x2048x1024
  let main_v100 : FVec F S1x2048x8 .f32 := (fun l r => Host.dotGeneral dot_S1x2048x1024_S1024x8_S1x2048x8_2_0_01_1_n_n none l r) main_v99 main_arg7
  fn_part5 (F := F) main_arg8 main_v23 main_v100

def fn_part3 {F : FTy → Type} [FloatOps F] (main_arg6 : FVec F S1024 .f32) (main_arg7 : FVec F S1024x8 .f32) (main_arg8 : FVec F S8 .f32) (main_v23 : IVec S_ 1) (main_v44 : FVec F S1x2048x1x64 .f32) (main_v45 : FVec F S1x2048x1x64 .f32) (main_v50 : FVec F S1x2048x16x64 .f32) (main_v55 : FVec F S1x2048x16x64 .f32) (main_v56 : FVec F S1x2048x1024 .f32) : IVec S1x2048x8x8 1 :=
  let main_v57 : FVec F S1x1x1024 .f32 := broadcastInDim S1x1x1024 ![2] bcast_S1024_S1x1x1024_2 main_arg6
  let main_v58 : FVec F S1x2048x1024 .f32 := broadcastInDim S1x2048x1024 ![0, 1, 2] bcast_S1x1x1024_S1x2048x1024_0_1_2 main_v57
  let main_v59 : FVec F S1x2048x1024 .f32 := addf main_v56 main_v58
  let main_v60 : FVec F S1x2048x16x64 .f32 := shapeCast S1x2048x16x64 main_v59 shapeCasts_S1x2048x1024_S1x2048x16x64
  let main_v61 : FVec F S1x2048x16x64 .f32 := broadcastInDim S1x2048x16x64 ![0, 1, 2, 3] bcast_S1x2048x1x64_S1x2048x16x64_0_1_2_3 main_v44
  let main_v62 : FVec F S1x2048x16x64 .f32 := mulf main_v50 main_v61
  let main_v63 : FVec F S1x2048x16x32 .f32 := (extractStridedSlice S1x2048x16x32 ![0, 0, 0, 32] · slices_S1x2048x16x64_S1x2048x16x32_0_0_0_32) main_v50
  let main_v64 : FVec F S1x2048x16x32 .f32 := Host.negf main_v63
  let main_v65 : FVec F S1x2048x16x32 .f32 := (extractStridedSlice S1x2048x16x32 ![0, 0, 0, 0] · slices_S1x2048x16x64_S1x2048x16x32_0_0_0_0) main_v50
  let main_v66 : FVec F S1x2048x16x64 .f32 := (fun a b => concatenate S1x2048x16x64 3 [⟨S1x2048x16x32, a⟩, ⟨S1x2048x16x32, b⟩] concatenates_S1x2048x16x32_S1x2048x16x32_S1x2048x16x64_d3) main_v64 main_v65
  let main_v67 : FVec F S1x2048x16x64 .f32 := broadcastInDim S1x2048x16x64 ![0, 1, 2, 3] bcast_S1x2048x1x64_S1x2048x16x64_0_1_2_3 main_v45
  let main_v68 : FVec F S1x2048x16x64 .f32 := mulf main_v66 main_v67
  let main_v69 : FVec F S1x2048x16x64 .f32 := addf main_v62 main_v68
  let main_v70 : FVec F S1x2048x16x64 .f32 := broadcastInDim S1x2048x16x64 ![0, 1, 2, 3] bcast_S1x2048x1x64_S1x2048x16x64_0_1_2_3 main_v44
  let main_v71 : FVec F S1x2048x16x64 .f32 := mulf main_v55 main_v70
  let main_v72 : FVec F S1x2048x16x32 .f32 := (extractStridedSlice S1x2048x16x32 ![0, 0, 0, 32] · slices_S1x2048x16x64_S1x2048x16x32_0_0_0_32) main_v55
  let main_v73 : FVec F S1x2048x16x32 .f32 := Host.negf main_v72
  let main_v74 : FVec F S1x2048x16x32 .f32 := (extractStridedSlice S1x2048x16x32 ![0, 0, 0, 0] · slices_S1x2048x16x64_S1x2048x16x32_0_0_0_0) main_v55
  let main_v75 : FVec F S1x2048x16x64 .f32 := (fun a b => concatenate S1x2048x16x64 3 [⟨S1x2048x16x32, a⟩, ⟨S1x2048x16x32, b⟩] concatenates_S1x2048x16x32_S1x2048x16x32_S1x2048x16x64_d3) main_v73 main_v74
  let main_v76 : FVec F S1x2048x16x64 .f32 := broadcastInDim S1x2048x16x64 ![0, 1, 2, 3] bcast_S1x2048x1x64_S1x2048x16x64_0_1_2_3 main_v45
  let main_v77 : FVec F S1x2048x16x64 .f32 := mulf main_v75 main_v76
  let main_v78 : FVec F S1x2048x16x64 .f32 := addf main_v71 main_v77
  let main_v79 : FVec F S1x16x2048x64 .f32 := (transpose S1x16x2048x64 [0, 2, 1, 3] · transposes_S1x2048x16x64_S1x16x2048x64_0_2_1_3) main_v69
  let main_v80 : FVec F S1x16x2048x64 .f32 := (transpose S1x16x2048x64 [0, 2, 1, 3] · transposes_S1x2048x16x64_S1x16x2048x64_0_2_1_3) main_v78
  fn_part4 (F := F) main_arg7 main_arg8 main_v23 main_v60 main_v79 main_v80

def fn_part2 {F : FTy → Type} [FloatOps F] (main_arg0 : FVec F S1x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x8 .f32) (main_arg8 : FVec F S8 .f32) (main_v23 : IVec S_ 1) (main_v32 : FVec F S32 .f32) (main_cst_12 : FVec F S_ .f32) : IVec S1x2048x8x8 1 :=
  let main_v33 : FVec F S32 .f32 := broadcastInDim S32 ![] bcast_S_S32 main_cst_12
  let main_v34 : FVec F S32 .f32 := Host.divf main_v33 main_v32
  let main_v35 : FVec F S2048 .f32 := sitofp .f32 (iotaInDim S2048 32 0)
  let main_v36 : FVec F S2048x1 .f32 := broadcastInDim S2048x1 ![0] bcast_S2048_S2048x1_0 main_v35
  let main_v37 : FVec F S1x32 .f32 := broadcastInDim S1x32 ![1] bcast_S32_S1x32_1 main_v34
  let main_v38 : FVec F S2048x32 .f32 := broadcastInDim S2048x32 ![0, 1] bcast_S2048x1_S2048x32_0_1 main_v36
  let main_v39 : FVec F S2048x32 .f32 := broadcastInDim S2048x32 ![0, 1] bcast_S1x32_S2048x32_0_1 main_v37
  let main_v40 : FVec F S2048x32 .f32 := mulf main_v38 main_v39
  let main_v41 : FVec F S2048x64 .f32 := (fun a b => concatenate S2048x64 1 [⟨S2048x32, a⟩, ⟨S2048x32, b⟩] concatenates_S2048x32_S2048x32_S2048x64_d1) main_v40 main_v40
  let main_v42 : FVec F S2048x64 .f32 := Host.cos main_v41
  let main_v43 : FVec F S2048x64 .f32 := Host.sin main_v41
  let main_v44 : FVec F S1x2048x1x64 .f32 := broadcastInDim S1x2048x1x64 ![1, 3] bcast_S2048x64_S1x2048x1x64_1_3 main_v42
  let main_v45 : FVec F S1x2048x1x64 .f32 := broadcastInDim S1x2048x1x64 ![1, 3] bcast_S2048x64_S1x2048x1x64_1_3 main_v43
  let main_v46 : FVec F S1x2048x1024 .f32 := (fun l r => Host.dotGeneral dot_S1x2048x1024_S1024x1024_S1x2048x1024_2_0_01_1_n_n none l r) main_arg0 main_arg1
  let main_v47 : FVec F S1x1x1024 .f32 := broadcastInDim S1x1x1024 ![2] bcast_S1024_S1x1x1024_2 main_arg2
  let main_v48 : FVec F S1x2048x1024 .f32 := broadcastInDim S1x2048x1024 ![0, 1, 2] bcast_S1x1x1024_S1x2048x1024_0_1_2 main_v47
  let main_v49 : FVec F S1x2048x1024 .f32 := addf main_v46 main_v48
  let main_v50 : FVec F S1x2048x16x64 .f32 := shapeCast S1x2048x16x64 main_v49 shapeCasts_S1x2048x1024_S1x2048x16x64
  let main_v51 : FVec F S1x2048x1024 .f32 := (fun l r => Host.dotGeneral dot_S1x2048x1024_S1024x1024_S1x2048x1024_2_0_01_1_n_n none l r) main_arg0 main_arg3
  let main_v52 : FVec F S1x1x1024 .f32 := broadcastInDim S1x1x1024 ![2] bcast_S1024_S1x1x1024_2 main_arg4
  let main_v53 : FVec F S1x2048x1024 .f32 := broadcastInDim S1x2048x1024 ![0, 1, 2] bcast_S1x1x1024_S1x2048x1024_0_1_2 main_v52
  let main_v54 : FVec F S1x2048x1024 .f32 := addf main_v51 main_v53
  let main_v55 : FVec F S1x2048x16x64 .f32 := shapeCast S1x2048x16x64 main_v54 shapeCasts_S1x2048x1024_S1x2048x16x64
  let main_v56 : FVec F S1x2048x1024 .f32 := (fun l r => Host.dotGeneral dot_S1x2048x1024_S1024x1024_S1x2048x1024_2_0_01_1_n_n none l r) main_arg0 main_arg5
  fn_part3 (F := F) main_arg6 main_arg7 main_arg8 main_v23 main_v44 main_v45 main_v50 main_v55 main_v56

def fn_part1 {F : FTy → Type} [FloatOps F] (main_arg0 : FVec F S1x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x8 .f32) (main_arg8 : FVec F S8 .f32) (main_v13 : IVec S_ 1) (main_v16 : IVec S1024x1024 1) : IVec S1x2048x8x8 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S32 .f32 := sitofp .f32 (iotaInDim S32 32 0)
  let main_cst_8 : FVec F S_ .f32 := constant S_ .f32 0x40000000#32
  let main_v25 : FVec F S32 .f32 := broadcastInDim S32 ![] bcast_S_S32 main_cst_8
  let main_v26 : FVec F S32 .f32 := mulf main_v25 main_v24
  let main_cst_9 : FVec F S_ .f32 := constant S_ .f32 0x00000000#32
  let main_v27 : FVec F S32 .f32 := broadcastInDim S32 ![] bcast_S_S32 main_cst_9
  let main_v28 : FVec F S32 .f32 := addf main_v27 main_v26
  let main_cst_10 : FVec F S_ .f32 := constant S_ .f32 0x42800000#32
  let main_v29 : FVec F S32 .f32 := broadcastInDim S32 ![] bcast_S_S32 main_cst_10
  let main_v30 : FVec F S32 .f32 := Host.divf main_v28 main_v29
  let main_cst_11 : FVec F S_ .f32 := constant S_ .f32 0x461C4000#32
  let main_v31 : FVec F S32 .f32 := broadcastInDim S32 ![] bcast_S_S32 main_cst_11
  let main_v32 : FVec F S32 .f32 := Host.powf main_v31 main_v30
  let main_cst_12 : FVec F S_ .f32 := constant S_ .f32 0x3F800000#32
  fn_part2 (F := F) main_arg0 main_arg1 main_arg2 main_arg3 main_arg4 main_arg5 main_arg6 main_arg7 main_arg8 main_v23 main_v32 main_cst_12

def fn {F : FTy → Type} [FloatOps F] (main_arg0 : FVec F S1x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x8 .f32) (main_arg8 : FVec F S8 .f32) (main_arg9 : FVec F S8x1024x1024 .f32) (main_arg10 : FVec F S8x1024 .f32) (main_arg11 : FVec F S1024x1024 .f32) (main_arg12 : FVec F S1024 .f32) : IVec S1x2048x8x8 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg0 main_arg1 main_arg2 main_arg3 main_arg4 main_arg5 main_arg6 main_arg7 main_arg8 main_v13 main_v16
-- ==== Kernel.lean ====
abbrev S1x2048x1024 : Shape := ⟨3, ![1, 2048, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S8x1024x1024 : Shape := ⟨3, ![8, 1024, 1024]⟩
abbrev S8x1024 : Shape := ⟨2, ![8, 1024]⟩
abbrev S2048x1024 : Shape := ⟨2, ![2048, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S1024x128 : Shape := ⟨2, ![1024, 128]⟩
abbrev S1x128 : Shape := ⟨2, ![1, 128]⟩
abbrev S2048x2048 : Shape := ⟨2, ![2048, 2048]⟩
abbrev S1x8 : Shape := ⟨2, ![1, 8]⟩
abbrev S256x1024 : Shape := ⟨2, ![256, 1024]⟩
abbrev S256x8 : Shape := ⟨2, ![256, 8]⟩
abbrev S256 : Shape := ⟨1, ![256]⟩
abbrev S256x1 : Shape := ⟨2, ![256, 1]⟩
abbrev S1x1024x1024 : Shape := ⟨3, ![1, 1024, 1024]⟩

abbrev nBuf : Space → Nat
  | .hbm => 57
  | .vmem => 29
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x8, .f32⟩
  | .hbm, ⟨8, _⟩ => ⟨S8, .f32⟩
  | .hbm, ⟨9, _⟩ => ⟨S8x1024x1024, .f32⟩
  | .hbm, ⟨10, _⟩ => ⟨S8x1024, .f32⟩
  | .hbm, ⟨11, _⟩ => ⟨S1024x1024, .f32⟩
  | .hbm, ⟨12, _⟩ => ⟨S1024, .f32⟩
  | .hbm, ⟨13, _⟩ => ⟨S2048x1024, .f32⟩
  | .hbm, ⟨14, _⟩ => ⟨S2048x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S2048, .f32⟩
  | .hbm, ⟨35, _⟩ => ⟨S2048x1, .f32⟩
  | .hbm, ⟨36, _⟩ => ⟨S1x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x64, .f32⟩
  | .hbm, ⟨41, _⟩ => ⟨S2048x64, .f32⟩
  | .hbm, ⟨42, _⟩ => ⟨S2048x64, .f32⟩
  | .hbm, ⟨43, _⟩ => ⟨S1x2048x1x64, .f32⟩
  | .hbm, ⟨44, _⟩ => ⟨S1x2048x2x64, .f32⟩
  | .hbm, ⟨45, _⟩ => ⟨S2048x128, .f32⟩
  | .hbm, ⟨46, _⟩ => ⟨S1x2048x1x64, .f32⟩
  | .hbm, ⟨47, _⟩ => ⟨S1x2048x2x64, .f32⟩
  | .hbm, ⟨48, _⟩ => ⟨S2048x128, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S2048x1024, .f32⟩
  | .hbm, ⟨53, _⟩ => ⟨S1x8, .f32⟩
  | .hbm, ⟨54, _⟩ => ⟨S1x1024, .f32⟩
  | .hbm, ⟨55, _⟩ => ⟨S2048x1024, .f32⟩
  | .hbm, ⟨56, _⟩ => ⟨S1x2048x1024, .f32⟩
  | .local _ .vmem, ⟨0, _⟩ => ⟨S2048x1024, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1024x8, .f32⟩
  | .local _ .vmem, ⟨22, _⟩ => ⟨S1x8, .f32⟩
  | .local _ .vmem, ⟨23, _⟩ => ⟨S8x1024x1024, .f32⟩
  | .local _ .vmem, ⟨24, _⟩ => ⟨S8x1024, .f32⟩
  | .local _ .vmem, ⟨25, _⟩ => ⟨S1024x1024, .f32⟩
  | .local _ .vmem, ⟨26, _⟩ => ⟨S1x1024, .f32⟩
  | .local _ .vmem, ⟨27, _⟩ => ⟨S256x1024, .f32⟩
  | .local _ .vmem, ⟨28, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem8_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S1x2048x1024 : Shape := ⟨3, ![1, 2048, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S8x1024x1024 : Shape := ⟨3, ![8, 1024, 1024]⟩
abbrev S8x1024 : Shape := ⟨2, ![8, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x1x1024 : Shape := ⟨3, ![1, 1, 1024]⟩
abbrev S1x2048x16x64 : Shape := ⟨4, ![1, 2048, 16, 64]⟩
abbrev S1x2048x16x32 : Shape := ⟨4, ![1, 2048, 16, 32]⟩
abbrev S1x16x2048x64 : Shape := ⟨4, ![1, 16, 2048, 64]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩
abbrev S1x2048x8 : Shape := ⟨3, ![1, 2048, 8]⟩
abbrev S1x1x8 : Shape := ⟨3, ![1, 1, 8]⟩
abbrev S1x2048 : Shape := ⟨2, ![1, 2048]⟩
abbrev S1x2048x1 : Shape := ⟨3, ![1, 2048, 1]⟩
abbrev S1x2048x2 : Shape := ⟨3, ![1, 2048, 2]⟩
abbrev S1x2048x8x1024 : Shape := ⟨4, ![1, 2048, 8, 1024]⟩
abbrev S1x1x8x1024 : Shape := ⟨4, ![1, 1, 8, 1024]⟩
abbrev S1x2048x2x1 : Shape := ⟨4, ![1, 2048, 2, 1]⟩
abbrev S2048x2x1 : Shape := ⟨3, ![2048, 2, 1]⟩
abbrev S1 : Shape := ⟨1, ![1]⟩
abbrev S1x1x1 : Shape := ⟨3, ![1, 1, 1]⟩
abbrev S2048x2 : Shape := ⟨2, ![2048, 2]⟩
abbrev S1x2048x2x1024 : Shape := ⟨4, ![1, 2048, 2, 1024]⟩

abbrev nBuf : Space → Nat
  | .hbm => 156
  | .vmem => 0
  | .smem => 0
  | _ => 0

abbrev hbmTy0_0 (i : Nat) : BufTy := match i % 128 with
  | 0 => ⟨S1x2048x1024, .f32⟩
  | 1 => ⟨S1024x1024, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1024x8, .f32⟩
  | 8 => ⟨S8, .f32⟩
  | 9 => ⟨S8x1024x1024, .f32⟩
  | 10 => ⟨S8x1024, .f32⟩
  | 11 => ⟨S1024x1024, .f32⟩
  | 12 => ⟨S1024, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S2048, .f32⟩
  | 30 => ⟨S2048x1, .f32⟩
  | 31 => ⟨S1x32, .f32⟩
  | 32 => ⟨S2048x32, .f32⟩
  | 33 => ⟨S2048x32, .f32⟩
  | 34 => ⟨S2048x32, .f32⟩
  | 35 => ⟨S2048x64, .f32⟩
  | 36 => ⟨S2048x64, .f32⟩
  | 37 => ⟨S2048x64, .f32⟩
  | 38 => ⟨S1x2048x1x64, .f32⟩
  | 39 => ⟨S1x2048x1x64, .f32⟩
  | 40 => ⟨S1x2048x1024, .f32⟩
  | 41 => ⟨S1x1x1024, .f32⟩
  | 42 => ⟨S1x2048x1024, .f32⟩
  | 43 => ⟨S1x2048x1024, .f32⟩
  | 44 => ⟨S1x2048x16x64, .f32⟩
  | 45 => ⟨S1x2048x1024, .f32⟩
  | 46 => ⟨S1x1x1024, .f32⟩
  | 47 => ⟨S1x2048x1024, .f32⟩
  | 48 => ⟨S1x2048x1024, .f32⟩
  | 49 => ⟨S1x2048x16x64, .f32⟩
  | 50 => ⟨S1x2048x1024, .f32⟩
  | 51 => ⟨S1x1x1024, .f32⟩
  | 52 => ⟨S1x2048x1024, .f32⟩
  | 53 => ⟨S1x2048x1024, .f32⟩
  | 54 => ⟨S1x2048x16x64, .f32⟩
  | 55 => ⟨S1x2048x16x64, .f32⟩
  | 56 => ⟨S1x2048x16x64, .f32⟩
  | 57 => ⟨S1x2048x16x32, .f32⟩
  | 58 => ⟨S1x2048x16x32, .f32⟩
  | 59 => ⟨S1x2048x16x32, .f32⟩
  | 60 => ⟨S1x2048x16x64, .f32⟩
  | 61 => ⟨S1x2048x16x64, .f32⟩
  | 62 => ⟨S1x2048x16x64, .f32⟩
  | 63 => ⟨S1x2048x16x64, .f32⟩
  | 64 => ⟨S1x2048x16x64, .f32⟩
  | 65 => ⟨S1x2048x16x64, .f32⟩
  | 66 => ⟨S1x2048x16x32, .f32⟩
  | 67 => ⟨S1x2048x16x32, .f32⟩
  | 68 => ⟨S1x2048x16x32, .f32⟩
  | 69 => ⟨S1x2048x16x64, .f32⟩
  | 70 => ⟨S1x2048x16x64, .f32⟩
  | 71 => ⟨S1x2048x16x64, .f32⟩
  | 72 => ⟨S1x2048x16x64, .f32⟩
  | 73 => ⟨S1x16x2048x64, .f32⟩
  | 74 => ⟨S1x16x2048x64, .f32⟩
  | 75 => ⟨S1x16x2048x64, .f32⟩
  | 76 => ⟨S1x16x2048x2048, .f32⟩
  | 77 => ⟨S_, .f32⟩
  | 78 => ⟨S_, .f32⟩
  | 79 => ⟨S1x16x2048x2048, .f32⟩
  | 80 => ⟨S1x16x2048x2048, .f32⟩
  | 81 => ⟨S_, .f32⟩
  | 82 => ⟨S1x16x2048, .f32⟩
  | 83 => ⟨S_, .f32⟩
  | 84 => ⟨S1x16x2048, .f32⟩
  | 85 => ⟨S1x16x2048, .f32⟩
  | 86 => ⟨S1x16x2048x1, .f32⟩
  | 87 => ⟨S1x16x2048x2048, .f32⟩
  | 88 => ⟨S1x16x2048x2048, .f32⟩
  | 89 => ⟨S1x16x2048x2048, .f32⟩
  | 90 => ⟨S_, .f32⟩
  | 91 => ⟨S1x16x2048, .f32⟩
  | 92 => ⟨S1x16x2048x1, .f32⟩
  | 93 => ⟨S1x16x2048x2048, .f32⟩
  | 94 => ⟨S1x16x2048x2048, .f32⟩
  | 95 => ⟨S1x16x2048x64, .f32⟩
  | 96 => ⟨S1x2048x16x64, .f32⟩
  | 97 => ⟨S1x2048x1024, .f32⟩
  | 98 => ⟨S1x2048x8, .f32⟩
  | 99 => ⟨S1x1x8, .f32⟩
  | 100 => ⟨S1x2048x8, .f32⟩
  | 101 => ⟨S1x2048x8, .f32⟩
  | 102 => ⟨S_, .f32⟩
  | 103 => ⟨S1x2048, .f32⟩
  | 104 => ⟨S_, .f32⟩
  | 105 => ⟨S1x2048, .f32⟩
  | 106 => ⟨S1x2048, .f32⟩
  | 107 => ⟨S1x2048x1, .f32⟩
  | 108 => ⟨S1x2048x8, .f32⟩
  | 109 => ⟨S1x2048x8, .f32⟩
  | 110 => ⟨S1x2048x8, .f32⟩
  | 111 => ⟨S_, .f32⟩
  | 112 => ⟨S1x2048, .f32⟩
  | 113 => ⟨S1x2048x1, .f32⟩
  | 114 => ⟨S1x2048x8, .f32⟩
  | 115 => ⟨S1x2048x8, .f32⟩
  | 116 => ⟨S1x2048x2, .f32⟩
  | 117 => ⟨S1x2048x2, .i32⟩
  | 118 => ⟨S1x2048x8x1024, .f32⟩
  | 119 => ⟨S1x1x8x1024, .f32⟩
  | 120 => ⟨S1x2048x8x1024, .f32⟩
  | 121 => ⟨S1x2048x8x1024, .f32⟩
  | 122 => ⟨S1x2048x2x1, .i32⟩
  | 123 => ⟨S_, .i32⟩
  | 124 => ⟨S1x2048x2x1, .i32⟩
  | 125 => ⟨S1x2048x2x1, .i1⟩
  | 126 => ⟨S_, .i32⟩
  | 127 => ⟨S1x2048x2x1, .i32⟩
  | _ => ⟨S1x2048x1024, .f32⟩

abbrev hbmTy0_1 (i : Nat) : BufTy := match i % 128 with
  | 0 => ⟨S1x2048x2x1, .i32⟩
  | 1 => ⟨S1x2048x2x1, .i32⟩
  | 2 => ⟨S2048x2x1, .i32⟩
  | 3 => ⟨S1, .i32⟩
  | 4 => ⟨S_, .i32⟩
  | 5 => ⟨S2048x2x1, .i32⟩
  | 6 => ⟨S2048x2x1, .i1⟩
  | 7 => ⟨S1x1x1, .i32⟩
  | 8 => ⟨S2048x2x1, .i32⟩
  | 9 => ⟨S2048x2x1, .i1⟩
  | 10 => ⟨S2048x2x1, .i1⟩
  | 11 => ⟨S_, .i1⟩
  | 12 => ⟨S2048x2, .i1⟩
  | 13 => ⟨S1x2048x2x1024, .f32⟩
  | 14 => ⟨S1x2048x2x1024, .i1⟩
  | 15 => ⟨S_, .f32⟩
  | 16 => ⟨S1x2048x2x1024, .f32⟩
  | 17 => ⟨S1x2048x2x1024, .f32⟩
  | 18 => ⟨S1x2048x2x1, .f32⟩
  | 19 => ⟨S1x2048x2x1024, .f32⟩
  | 20 => ⟨S1x2048x2x1024, .f32⟩
  | 21 => ⟨S_, .f32⟩
  | 22 => ⟨S1x2048x1024, .f32⟩
  | 23 => ⟨S1x2048x1024, .f32⟩
  | 24 => ⟨S1x1x1024, .f32⟩
  | 25 => ⟨S1x2048x1024, .f32⟩
  | 26 => ⟨S1x2048x1024, .f32⟩
  | 27 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_4 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_5 : Ref sig .tc := ⟨.hbm, 81, rfl⟩
abbrev main_v62 : Ref sig .tc := ⟨.hbm, 82, rfl⟩
abbrev main_cst_6 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_7 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_8 : Ref sig .tc := ⟨.hbm, 102, rfl⟩
abbrev main_v80 : Ref sig .tc := ⟨.hbm, 103, rfl⟩
abbrev main_cst_9 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_10 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_values : Ref sig .tc := ⟨.hbm, 116, rfl⟩
abbrev main_indices : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_call0_c : Ref sig .tc := ⟨.hbm, 123, rfl⟩
abbrev main_call0_v0 : Ref sig .tc := ⟨.hbm, 124, rfl⟩
abbrev main_call0_v1 : Ref sig .tc := ⟨.hbm, 125, rfl⟩
abbrev main_call0_c_0 : Ref sig .tc := ⟨.hbm, 126, rfl⟩
abbrev main_call0_v2 : Ref sig .tc := ⟨.hbm, 127, rfl⟩
abbrev main_call0_v3 : Ref sig .tc := ⟨.hbm, 128, rfl⟩
abbrev main_call0_v4 : Ref sig .tc := ⟨.hbm, 129, rfl⟩
abbrev main_call0_v5 : Ref sig .tc := ⟨.hbm, 130, rfl⟩
abbrev main_call0_c_1 : Ref sig .tc := ⟨.hbm, 131, rfl⟩
abbrev main_call0_c_2 : Ref sig .tc := ⟨.hbm, 132, rfl⟩
abbrev main_call0_v6 : Ref sig .tc := ⟨.hbm, 133, rfl⟩
abbrev main_call0_v7 : Ref sig .tc := ⟨.hbm, 134, rfl⟩
abbrev main_call0_v8 : Ref sig .tc := ⟨.hbm, 135, rfl⟩
abbrev main_call0_v9 : Ref sig .tc := ⟨.hbm, 136, rfl⟩
abbrev main_call0_v10 : Ref sig .tc := ⟨.hbm, 137, rfl⟩
abbrev main_call0_v11 : Ref sig .tc := ⟨.hbm, 138, rfl⟩
abbrev main_call0_c_3 : Ref sig .tc := ⟨.hbm, 139, rfl⟩
abbrev main_call0_v12 : Ref sig .tc := ⟨.hbm, 140, rfl⟩
abbrev main_call0_v13 : Ref sig .tc := ⟨.hbm, 141, rfl⟩
abbrev main_call0_v14 : Ref sig .tc := ⟨.hbm, 142, rfl⟩
abbrev main_call0_cst : Ref sig .tc := ⟨.hbm, 143, rfl⟩
abbrev main_call0_v15 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_11 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩

abbrev nD : Nat := 1
abbrev τ : Topo := Topo.v7x

variable {F : FTy → Type} [FloatOps F]
-- ==== Proof.KRun.lean ====
module

public import proofs.«01_k».proof.Proof.Gen.KernelIdeal.Frame
public import Idealize.ShloMosaic.Lib.IdealHost

@[expose] public section

/-! # The idealized kernel's run, with its result array -/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen

local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

/-- Every run of the idealized kernel ends with each array that outlives the launches at the contents that the fold
    over the host stretches and the two launches gives it. -/
theorem ends : θ_run defs (onTc (τ := τ) (main (F := Idealize.ShloMosaic.Ideal))) ⟨m, fun _ => 0, ρ⟩ (fun r =>
    ∀ c : Dev nD, ∀ b ∈ Pipeline.ucRefs τ sig, r.2.mem (((c : Thread nD τ)).1, b) = W5 m ρ c b) :=
  Pipeline.θ_run_regions_kit_sems (pcfgs (F := Idealize.ShloMosaic.Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-- The result array and the argument arrays at the end of every run of the idealized kernel. -/
theorem run : θ_run defs (onTc (τ := τ) (main (F := Idealize.ShloMosaic.Ideal))) ⟨m, fun _ => 0, ρ⟩ (fun r => ∀ c : Dev nD,
      r.2.mem ((c.tc : Thread nD τ).loc main_v38) = W5 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v38 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩) (ends m ρ)

end Cert.KernelIdeal.Run

end
-- ==== Proof.Spec.lean ====
module

public import Mathlib.Data.EReal.Inv
public import Idealize.ShloMosaic.Lib.IdealHost

@[expose] public section

/-! # The layer's mathematics, over the extended reals

    The functions both programs compute, written over plain coordinates: the rotary embedding of one head's vector,
    the softmax of a row, one head's attention, the gates of a token, and the weights of its two best experts. -/

noncomputable section

namespace Cert.Layer

open Idealize.ShloMosaic

/-- The rotated half of a head's vector: the second half negated, then the first half. -/
def half (u : Fin 64 → EReal) (f : Fin 64) : EReal :=
  if h : (f : ℕ) < 32 then -(u ⟨32 + f, by omega⟩) else u ⟨f - 32, by omega⟩

/-- The rotary embedding of a head's vector by a row of cosines and a row of sines. -/
def rot (u cs sn : Fin 64 → EReal) (f : Fin 64) : EReal := u f * cs f + half u f * sn f

/-- Feature `f` of head `h`, as a column of the model's width. -/
def col (h : Fin 16) (f : Fin 64) : Fin 1024 := ⟨h * 64 + f, by omega⟩

/-- A dense layer's output: the product with the weights, plus the bias. -/
def dense {n k m : ℕ} (x : Fin n → Fin k → EReal) (W : Fin k → Fin m → EReal) (b : Fin m → EReal)
    (s : Fin n) (c : Fin m) : EReal := (∑ d, x s d * W d c) + b c

/-- The inverse frequency of a feature pair: one over ten thousand to the power twice the pair's number over 64. -/
def invFreq (g : Fin 32) : EReal :=
  Ideal.div (Ideal.ofBits .f32 0x3F800000#32) (Ideal.pow (Ideal.ofBits .f32 0x461C4000#32)
    (Ideal.div (Ideal.ofBits .f32 0x00000000#32 + Ideal.ofBits .f32 0x40000000#32 * FloatOps.sitofp (F := Ideal) .f32 (BitVec.ofNat 32 g))
      (Ideal.ofBits .f32 0x42800000#32)))

/-- The angle of a position and a feature: the position times the inverse frequency of the feature's pair. -/
def angle (s : Fin 2048) (f : Fin 64) : EReal :=
  if h : (f : ℕ) < 32 then FloatOps.sitofp (F := Ideal) .f32 (BitVec.ofNat 32 s) * invFreq ⟨f, h⟩
  else FloatOps.sitofp (F := Ideal) .f32 (BitVec.ofNat 32 s) * invFreq ⟨f - 32, by omega⟩

/-- The table of cosines. -/
def cosT (s : Fin 2048) (f : Fin 64) : EReal := Ideal.cos (angle s f)

/-- The table of sines. -/
def sinT (s : Fin 2048) (f : Fin 64) : EReal := Ideal.sin (angle s f)

/-- One head's part of a projection. -/
def proj (X : Fin 2048 → Fin 1024 → EReal) (W : Fin 1024 → Fin 1024 → EReal) (b : Fin 1024 → EReal)
    (h : Fin 16) (s : Fin 2048) (f : Fin 64) : EReal := dense X W b s (col h f)

/-- One head's part of a projection, with the rotary embedding. -/
def projRot (X : Fin 2048 → Fin 1024 → EReal) (W : Fin 1024 → Fin 1024 → EReal) (b : Fin 1024 → EReal)
    (h : Fin 16) (s : Fin 2048) (f : Fin 64) : EReal := rot (proj X W b h s) (cosT s) (sinT s) f

/-- The score of a query against a key: their product over the head's 64 features, times one eighth. -/
def score (q k : Fin 2048 → Fin 64 → EReal) (i j : Fin 2048) : EReal :=
  (∑ f, q i f * k j f) * ((8 : EReal)⁻¹)

/-- The greatest entry of a row, from minus infinity. -/
def top {n : ℕ} (u : Fin n → EReal) : EReal := Finset.univ.fold max ⊥ u

/-- The exponential of a row's entry less the row's greatest. -/
def expo {n : ℕ} (u : Fin n → EReal) (j : Fin n) : EReal := Ideal.exp (u j - top u)

/-- The softmax of a row. -/
def soft {n : ℕ} (u : Fin n → EReal) (j : Fin n) : EReal := Ideal.div (expo u j) (∑ k, expo u k)

/-- One head's attention with the division after the sum over the keys. -/
def headK (q k v : Fin 2048 → Fin 64 → EReal) (i : Fin 2048) (f : Fin 64) : EReal :=
  Ideal.div (∑ j, expo (score q k i) j * v j f) (∑ j, expo (score q k i) j)

/-- One head's attention with the softmax first. -/
def headR (q k v : Fin 2048 → Fin 64 → EReal) (i : Fin 2048) (f : Fin 64) : EReal :=
  ∑ j, soft (score q k i) j * v j f

/-- The two best entries of a row of gates: `a` is above every other, and `b` above every other but `a`. -/
structure Best (g : Fin 8 → EReal) (a b : Fin 8) : Prop where
  first : ∀ e, e ≠ a → g e < g a
  ne : b ≠ a
  second : ∀ e, e ≠ a → e ≠ b → g e < g b

/-- The weights of the experts: the two best keep their gates, the others get zero. -/
def pick (g : Fin 8 → EReal) (a b e : Fin 8) : EReal := if e = a then g a else if e = b then g b else 0

/-- One expert's product with a token's vector, at an output feature. -/
def expert (u : Fin 1024 → EReal) (We : Fin 8 → Fin 1024 → Fin 1024 → EReal) (e : Fin 8) (d : Fin 1024) : EReal :=
  ∑ k, u k * We e k d

/-- The mixture as a weighted sum over all eight experts, the biases first. -/
def mixK (w : Fin 8 → EReal) (u : Fin 1024 → EReal) (We : Fin 8 → Fin 1024 → Fin 1024 → EReal)
    (be : Fin 8 → Fin 1024 → EReal) (d : Fin 1024) : EReal :=
  (∑ e, w e * be e d) + w 0 * expert u We 0 d + w 1 * expert u We 1 d + w 2 * expert u We 2 d + w 3 * expert u We 3 d
    + w 4 * expert u We 4 d + w 5 * expert u We 5 d + w 6 * expert u We 6 d + w 7 * expert u We 7 d

/-- The mixture as the sum over the two best experts. -/
def mixR (g : Fin 8 → EReal) (a b : Fin 8) (u : Fin 1024 → EReal) (We : Fin 8 → Fin 1024 → Fin 1024 → EReal)
    (be : Fin 8 → Fin 1024 → EReal) (d : Fin 1024) : EReal :=
  g a * (expert u We a d + be a d) + g b * (expert u We b d + be b d)

/-- The last projection, with the token's own input added. -/
def final (v : Fin 1024 → EReal) (Wf : Fin 1024 → Fin 1024 → EReal) (bf x : Fin 1024 → EReal) (c : Fin 1024) : EReal :=
  (∑ d, v d * Wf d c) + bf c + x c

end Cert.Layer

end
-- ==== Proof.Lits.lean ====
module

public import Idealize.ShloMosaic.PureOps.Ideal

@[expose] public section

/-! # The float literals the two programs write, as extended reals -/

namespace Cert.Lits

open Idealize.ShloMosaic

/-- The scores' scale is one eighth. -/
theorem ofBits_eighth : Ideal.ofBits .f32 0x3E000000#32 = (8 : EReal)⁻¹ := by
  rw [show ((8 : EReal)⁻¹) = (((8 : ℝ)⁻¹ : ℝ) : EReal) by rw [EReal.coe_inv]; rfl]
  simp [Ideal.ofBits, Ideal.ieee, -EReal.coe_mul]; norm_num

/-- The identity of a maximum is minus infinity. -/
theorem ofBits_neg_inf : Ideal.ofBits .f32 0xFF800000#32 = (⊥ : EReal) := by
  simp [Ideal.ofBits, Ideal.ieee, -EReal.coe_mul]

/-- Plus infinity. -/
theorem ofBits_inf : Ideal.ofBits .f32 0x7F800000#32 = (⊤ : EReal) := by
  simp [Ideal.ofBits, Ideal.ieee, -EReal.coe_mul]

/-- Sixty-four, whose square root the reference divides the scores by. -/
theorem ofBits_sixty_four : Ideal.ofBits .f32 0x42800000#32 = ((64 : ℝ) : EReal) := by
  simp [Ideal.ofBits, Ideal.ieee, -EReal.coe_mul]; norm_num

/-- One. -/
theorem ofBits_one : Ideal.ofBits .f32 0x3F800000#32 = ((1 : ℝ) : EReal) := by
  simp [Ideal.ofBits, Ideal.ieee, -EReal.coe_mul]; norm_num

/-- Two. -/
theorem ofBits_two : Ideal.ofBits .f32 0x40000000#32 = ((2 : ℝ) : EReal) := by
  simp [Ideal.ofBits, Ideal.ieee, -EReal.coe_mul]; norm_num

/-- Zero. -/
theorem ofBits_zero : Ideal.ofBits .f32 0x00000000#32 = ((0 : ℝ) : EReal) := by
  simp [Ideal.ofBits, Ideal.ieee, -EReal.coe_mul]

/-- Ten thousand, the base of the rotary frequencies. -/
theorem ofBits_base : Ideal.ofBits .f32 0x461C4000#32 = ((10000 : ℝ) : EReal) := by
  simp [Ideal.ofBits, Ideal.ieee, -EReal.coe_mul]; norm_num

end Cert.Lits
-- ==== Proof.KAttn.lean ====
module

public import proofs.«01_k».proof.Proof.Spec
public import proofs.«01_k».proof.Proof.Lits
public import proofs.«01_k».proof.Proof.Gen.KernelIdeal.Frame
public import Idealize.ShloMosaic.Lib.Pointwise

@[expose] public section

/-! # What the attention call leaves in one output block -/

noncomputable section

namespace Cert.KernelIdeal.Attn

open Idealize.ShloMosaic Cert.KernelIdeal Cert.KernelIdeal.Gen Cert.Layer

set_option maxRecDepth 16384

/-- Lane `l` of a block of two heads: the lane of feature `f` in the block's head `j`. -/
def lane (j : Fin 2) (f : Fin 64) : Fin 128 := ⟨j * 64 + f, by omega⟩

/-- A block's projection at a row and a lane. -/
def blk (x : Vec Ideal S2048x1024 .bf16) (w : Vec Ideal S1024x128 .bf16) (b : Vec Ideal S1x128 .f32)
    (s : Fin 2048) (l : Fin 128) : EReal := (∑ d : Fin 1024, x (ix2 s d) * w (ix2 d l)) + b (ix2 0 l)

/-- The rotary embedding of a block's projection, in head `j` of the block. -/
def blkRot (u : Fin 2048 → Fin 128 → EReal) (cs sn : Vec Ideal S2048x128 .f32) (j : Fin 2)
    (s : Fin 2048) (f : Fin 64) : EReal :=
  rot (fun g => u s (lane j g)) (fun g => cs (ix2 s (lane j g))) (fun g => sn (ix2 s (lane j g))) f

/-- The queries' projection at an index. -/
theorem pay5_apply (v0 : Vec Ideal S2048x1024 .bf16) (v6 : Vec Ideal S1024x128 .bf16) (v9 : Vec Ideal S1x128 .f32)
    (s : Fin 2048) (l : Fin 128) : k0_pay5 v0 v6 v9 (ix2 s l) = blk v0 v6 v9 s l := by
  unfold blk; pointwise [k0_pay5, k0_pay2]

/-- The keys' projection at an index. -/
theorem pay6_apply (v0 : Vec Ideal S2048x1024 .bf16) (v6 : Vec Ideal S1024x128 .bf16) (v9 : Vec Ideal S1x128 .f32)
    (s : Fin 2048) (l : Fin 128) : k0_pay6 v0 v6 v9 (ix2 s l) = blk v0 v6 v9 s l := by
  unfold blk; pointwise [k0_pay6, k0_pay2]

/-- The values' projection at an index. -/
theorem pay7_apply (v0 : Vec Ideal S2048x1024 .bf16) (v6 : Vec Ideal S1024x128 .bf16) (v9 : Vec Ideal S1x128 .f32)
    (s : Fin 2048) (l : Fin 128) : k0_pay7 v0 v6 v9 (ix2 s l) = blk v0 v6 v9 s l := by
  unfold blk; pointwise [k0_pay7, k0_pay2]

/-- The four pieces that hold the rotated halves of two heads, at a lane: head `j`'s rotated half. -/
theorem pieces_eq (u : Fin 128 → EReal) (j : Fin 2) (f : Fin 64) (P : Fin 128 → EReal)
    (h0 : ∀ g : Fin 32, P ⟨g, by omega⟩ = 0 - u ⟨32 + g, by omega⟩)
    (h1 : ∀ g : Fin 32, P ⟨32 + g, by omega⟩ = u ⟨g, by omega⟩)
    (h2 : ∀ g : Fin 32, P ⟨64 + g, by omega⟩ = 0 - u ⟨96 + g, by omega⟩)
    (h3 : ∀ g : Fin 32, P ⟨96 + g, by omega⟩ = u ⟨64 + g, by omega⟩) :
    P (lane j f) = half (fun g => u (lane j g)) f := by
  unfold half lane
  have hj : (j : ℕ) = 0 ∨ (j : ℕ) = 1 := by omega
  rcases hj with hj | hj <;> simp only [hj] <;> split
  · next h =>
    have := h0 ⟨f, h⟩
    simp only [zero_sub] at this
    refine Eq.trans (congrArg P (Fin.ext (by simp))) (this.trans (congrArg (fun z => -(u z)) (Fin.ext (by simp))))
  · next h =>
    have := h1 ⟨f - 32, by omega⟩
    refine Eq.trans (congrArg P (Fin.ext (by simp; omega))) (this.trans (congrArg u (Fin.ext (by simp))))
  · next h =>
    have := h2 ⟨f, h⟩
    simp only [zero_sub] at this
    refine Eq.trans (congrArg P (Fin.ext (by simp))) (this.trans (congrArg (fun z => -(u z)) (Fin.ext (by simp; omega))))
  · next h =>
    have := h3 ⟨f - 32, by omega⟩
    refine Eq.trans (congrArg P (Fin.ext (by simp; omega))) (this.trans (congrArg u (Fin.ext (by simp))))

/-- The rotated queries of a block, at a row and a feature of head `j`. -/
theorem pay13_apply (v0 : Vec Ideal S2048x1024 .bf16) (v2 v5 : Vec Ideal S2048x128 .f32)
    (v6 : Vec Ideal S1024x128 .bf16) (v9 : Vec Ideal S1x128 .f32) (s : Fin 2048) (j : Fin 2) (f : Fin 64) :
    k0_pay13 v5 (k0_pay8 v0 v2 v6 v9) (k0_pay9 v0 v6 v9) (k0_pay10 v0 v6 v9) (k0_pay11 v0 v6 v9) (k0_pay12 v0 v6 v9)
      (ix2 s (lane j f)) = blkRot (blk v0 v6 v9) v2 v5 j s f := by
  unfold blkRot rot
  rw [← pieces_eq (blk v0 v6 v9 s) j f (fun l => concatenate S2048x128 1 [⟨S2048x32, k0_pay9 v0 v6 v9⟩,
    ⟨S2048x32, k0_pay10 v0 v6 v9⟩, ⟨S2048x32, k0_pay11 v0 v6 v9⟩, ⟨S2048x32, k0_pay12 v0 v6 v9⟩]
    concatenates_S2048x32_S2048x32_S2048x32_S2048x32_S2048x128_d1 (ix2 s l))]
  · pointwise [k0_pay13, k0_pay8, k0_pay3]
    simp only [pay5_apply]
  all_goals
    intro g
    pointwise [k0_pay9, k0_pay10, k0_pay11, k0_pay12]
    simp only [pay5_apply]
  · rw [dif_neg (by omega), dif_neg (by omega), dif_pos (by omega)]
    exact congrArg (fun z => 0 - blk v0 v6 v9 s z) (Fin.ext (by simp; omega))
  · rw [dif_neg (by omega), dif_neg (by omega), dif_neg (by omega)]
    exact congrArg (fun z => blk v0 v6 v9 s z) (Fin.ext (by simp; omega))

/-- The cosines' block is read whole. -/
theorem pay3_eq (v : Vec Ideal S2048x128 .f32) : k0_pay3 v = v := by unfold k0_pay3; exact shapeCast_self _ _

/-- The sines' block is read whole. -/
theorem pay4_eq (v : Vec Ideal S2048x128 .f32) : k0_pay4 v = v := by unfold k0_pay4; exact shapeCast_self _ _

/-- The rotated keys of a block, at a row and a feature of head `j`. -/
theorem pay14_apply (v0 : Vec Ideal S2048x1024 .bf16) (v3 v5 : Vec Ideal S2048x128 .f32)
    (v6 : Vec Ideal S1024x128 .bf16) (v9 : Vec Ideal S1x128 .f32) (s : Fin 2048) (j : Fin 2) (f : Fin 64) :
    k0_pay14 v3 v5 (k0_pay6 v0 v6 v9) (ix2 s (lane j f)) = blkRot (blk v0 v6 v9) v3 v5 j s f := by
  have e : k0_pay14 (k0_pay3 v3) v5 (k0_pay6 v0 v6 v9) =
      k0_pay13 v5 (k0_pay8 v0 v3 v6 v9) (k0_pay9 v0 v6 v9) (k0_pay10 v0 v6 v9) (k0_pay11 v0 v6 v9)
        (k0_pay12 v0 v6 v9) := rfl
  rw [pay3_eq] at e
  rw [e, pay13_apply]

/-- A lane of a block's first head. -/
theorem lane_zero (f : Fin 64) (h : (f : ℕ) < 128) : (⟨f, h⟩ : Fin 128) = lane 0 f := Fin.ext (by simp [lane])

/-- A lane of a block's second head. -/
theorem lane_one (f : Fin 64) (h : 64 + (f : ℕ) < 128) : (⟨64 + f, h⟩ : Fin 128) = lane 1 f := Fin.ext (by simp [lane])

/-- A block's scores' exponentials, from what the rotated queries and keys hold at head `j`. -/
theorem weights_eq (Q K : Fin 2048 → Fin 64 → EReal) (s j : Fin 2048) :
    Ideal.exp ((∑ x, Q s x * K j x) * Ideal.ofBits .f32 0x3E000000#32 -
      Finset.fold max (Ideal.ofBits .f32 0xFF800000#32) (fun y => (∑ x, Q s x * K y x) * Ideal.ofBits .f32 0x3E000000#32)
        Finset.univ) = expo (score Q K s) j := by
  rw [Lits.ofBits_eighth, Lits.ofBits_neg_inf]; rfl

/-- What the second store of a block writes: the attention of its head 1. -/
theorem head1_apply (x0 : Vec Ideal S2048x1024 .bf16) (x1 x2 x3 : Vec Ideal S1024x128 .bf16) (x4 x5 x6 : Vec Ideal S1x128 .f32)
    (x7 x8 : Vec Ideal S2048x128 .f32) (s : Fin 2048) (f : Fin 64) :
    k0_pay1 (k0_pay17 (k0_pay7 x0 x3 x6)) (k0_pay18 (k0_pay3 x7) (k0_pay4 x8) (k0_pay6 x0 x2 x5) (k0_pay8 x0 x7 x1 x4)
      (k0_pay9 x0 x1 x4) (k0_pay10 x0 x1 x4) (k0_pay11 x0 x1 x4) (k0_pay12 x0 x1 x4)) (ix2 s f) =
    headK (blkRot (blk x0 x1 x4) x7 x8 1) (blkRot (blk x0 x2 x5) x7 x8 1) (fun i g => blk x0 x3 x6 i (lane 1 g)) s f := by
  unfold headK
  pointwise [k0_pay1, k0_pay17, k0_pay15, k0_pay18]
  simp only [pay3_eq, pay4_eq, lane_one, pay13_apply, pay14_apply, pay7_apply, weights_eq]

/-- What the first store of a block writes: the attention of its head 0. -/
theorem head0_apply (x0 : Vec Ideal S2048x1024 .bf16) (x1 x2 x3 : Vec Ideal S1024x128 .bf16) (x4 x5 x6 : Vec Ideal S1x128 .f32)
    (x7 x8 : Vec Ideal S2048x128 .f32) (s : Fin 2048) (f : Fin 64) :
    k0_pay16 (k0_pay3 x7) (k0_pay4 x8) (k0_pay6 x0 x2 x5) (k0_pay7 x0 x3 x6) (k0_pay8 x0 x7 x1 x4)
      (k0_pay9 x0 x1 x4) (k0_pay10 x0 x1 x4) (k0_pay11 x0 x1 x4) (k0_pay12 x0 x1 x4) (ix2 s f) =
    headK (blkRot (blk x0 x1 x4) x7 x8 0) (blkRot (blk x0 x2 x5) x7 x8 0) (fun i g => blk x0 x3 x6 i (lane 0 g)) s f := by
  unfold headK
  pointwise [k0_pay16, k0_pay15]
  simp only [pay3_eq, pay4_eq, lane_zero, pay13_apply, pay14_apply, pay7_apply, weights_eq]

/-- The attention of a block at a row and a lane: that of the lane's head, at the lane's feature. -/
def blkHead (x0 : Vec Ideal S2048x1024 .bf16) (x1 x2 x3 : Vec Ideal S1024x128 .bf16) (x4 x5 x6 : Vec Ideal S1x128 .f32)
    (x7 x8 : Vec Ideal S2048x128 .f32) (s : Fin 2048) (j : Fin 2) (f : Fin 64) : EReal :=
  headK (blkRot (blk x0 x1 x4) x7 x8 j) (blkRot (blk x0 x2 x5) x7 x8 j) (fun i g => blk x0 x3 x6 i (lane j g)) s f

/-- The output block after the attention call's body, at a row and a lane: that lane's head's attention. -/
theorem out0_9_apply (x0 : Vec Ideal S2048x1024 .bf16) (x1 x2 x3 : Vec Ideal S1024x128 .bf16) (x4 x5 x6 : Vec Ideal S1x128 .f32)
    (x7 x8 : Vec Ideal S2048x128 .f32) (s : Fin 2048) (j : Fin 2) (f : Fin 64) :
    out0_9 x0 x1 x2 x3 x4 x5 x6 x7 x8 (ix2 s (lane j f)) = blkHead x0 x1 x2 x3 x4 x5 x6 x7 x8 s j f := by
  have z : (![0, 0] : Fin 2 → Nat) = fun _ => 0 := by decide
  have l0 : View.ld x0 r0_0 = x0 := View.ld_unit_zero (S := S2048x1024) z _ x0
  have l1 : ∀ x : Vec Ideal S1024x128 .bf16, View.ld x r0_2 = x := fun x => View.ld_unit_zero (S := S1024x128) z _ x
  have l2 : ∀ x : Vec Ideal S1x128 .f32, View.ld x r0_3 = x := fun x => View.ld_unit_zero (S := S1x128) z _ x
  have l3 : ∀ x : Vec Ideal S2048x128 .f32, View.ld x r0_1 = x := fun x => View.ld_unit_zero (S := S2048x128) z _ x
  unfold out0_9 k0_pay19 k0_pay20 k0_pay21 k0_pay22 k0_pay23 k0_pay24 k0_pay25 k0_pay26 k0_pay27
  simp only [l0, l1, l2, l3]
  obtain hj | hj : j = 0 ∨ j = 1 := by omega
  · subst hj
    have hi : (ix2 s (lane 0 f) : S2048x128.Idx) = r0_4.emb (ix2 s f : S2048x64.Idx) := by
      funext a; refine Fin.ext ?_
      match a with
      | 0 => show (s : ℕ) = 0 + 1 * s; omega
      | 1 => show 0 * 64 + (f : ℕ) = 0 + 1 * f; omega
    rw [View.canon_cons_of_not_mem]
    · rw [hi, View.canon_cons_emb]; exact head0_apply ..
    · intro h
      have h2 : (ix2 s (lane 0 f) : S2048x128.Idx) ∈ r0_5.set := h
      rw [Rect.mem_set_unit] at h2
      have h3 : 64 ≤ 0 * 64 + (f : ℕ) := (h2 1).1
      omega
  · subst hj
    have hi : (ix2 s (lane 1 f) : S2048x128.Idx) = r0_5.emb (ix2 s f : S2048x64.Idx) := by
      funext a; refine Fin.ext ?_
      match a with
      | 0 => show (s : ℕ) = 0 + 1 * s; omega
      | 1 => show 1 * 64 + (f : ℕ) = 64 + 1 * f; omega
    rw [hi, View.canon_cons_emb]
    exact head1_apply ..

end Cert.KernelIdeal.Attn

end
-- ==== Proof.KMoe.lean ====
module

public import proofs.«01_k».proof.Proof.Spec
public import proofs.«01_k».proof.Proof.Lits
public import proofs.«01_k».proof.Proof.Gen.KernelIdeal.Frame
public import Idealize.ShloMosaic.Lib.Pointwise

@[expose] public section

/-! # What the mixture call leaves in one output block -/

noncomputable section

namespace Cert.KernelIdeal.Moe

open Idealize.ShloMosaic Cert.KernelIdeal Cert.KernelIdeal.Gen Cert.Layer

set_option maxRecDepth 16384

/-- The greatest entry of a row is the entry that none exceeds. -/
theorem top_eq {n : ℕ} (u : Fin n → EReal) (a : Fin n) (h : ∀ e, u e ≤ u a) : top u = u a := by
  unfold top
  apply le_antisymm
  · exact (Finset.fold_max_le _).2 ⟨bot_le, fun e _ => h e⟩
  · exact (Finset.le_fold_max _).2 (Or.inr ⟨a, Finset.mem_univ a, le_rfl⟩)

/-- The position of the greatest entry of a row, when one entry is above all others. -/
theorem argmax_eq (g : FVec Ideal S256x8 .f32) (s : Fin 256) (a : Fin 8)
    (h : ∀ e, e ≠ a → g (ix2 s e) < g (ix2 s a)) :
    reduceIndex .argMax 1 S256 g reduces_S256x8_S256 (ix1 s) = BitVec.ofNat 32 a := by
  have hd : ∀ i : S256x8.Idx, reduces_S256x8_S256.drop i = ix1 s ↔ i 0 = s := by
    intro i
    simp [funext_iff, Fin.ext_iff, Fin.forall_fin_one, reduces_S256x8_S256.drop_apply_val_of_eq i 0 0, ix1]
    exact Fin.ext_iff.symm
  show Ideal.reduceIndex .argMax 1 reduces_S256x8_S256 g (ix1 s) = _
  simp only [Ideal.reduceIndex]
  have hs : (Finset.univ.filter fun i : S256x8.Idx => reduces_S256x8_S256.drop i = ix1 s).filter
      (fun i => ∀ i' ∈ Finset.univ.filter fun i : S256x8.Idx => reduces_S256x8_S256.drop i = ix1 s, ¬ g i < g i')
        = {ix2 s a} := by
    ext i
    simp only [Finset.mem_filter, Finset.mem_univ, true_and, hd, Finset.mem_singleton]
    constructor
    · rintro ⟨h0, h1⟩
      rw [eq_ix2 i] at h0 ⊢
      have h0 : i 0 = s := h0
      rw [h0]
      by_contra hne
      have : (i 1) ≠ a := fun hh => hne (by rw [hh])
      refine h1 (ix2 s a) rfl ?_
      rw [eq_ix2 i, h0]
      exact h _ this
    · rintro rfl
      refine ⟨rfl, fun i' h0 => ?_⟩
      rw [eq_ix2 i', h0]
      rcases eq_or_ne (i' 1) a with hh | hh
      · rw [hh]; exact lt_irrefl _
      · exact not_lt.2 (h _ hh).le
  simp only [if_pos, ite_true]
  rw [hs]
  simp
  rfl

/-- The gates of a block's tokens, as the call computes them. -/
def kgates (v0 : Vec Ideal S256x1024 .f32) (v2 : Vec Ideal S1024x8 .f32) (v4 : Vec Ideal S1x8 .f32) :
    FVec Ideal S256x8 .f32 :=
  have u : FVec Ideal S256x8 .f32 := addf (matmul dot_S256x1024_S1024x8_S256x8_1_0_0_1_n_n none (k1_pay2 v0) (φ₂ := .f32) v2
    (constant S256x8 .f32 0x00000000#32)) (broadcastTo S256x8 (shapeCast S1x8 v4 shapeCasts_S1x8_S1x8) broadcasts_S1x8_S256x8)
  have m : FVec Ideal S256 .f32 := multiReduction .maximumf [1] S256 u 0xFF800000#32 reduces_S256x8_S256 (.inl rfl) rfl
  have e : FVec Ideal S256x8 .f32 := exp (subf u (broadcastTo S256x8 (shapeCast S256x1 m shapeCasts_S256_S256x1) broadcasts_S256x1_S256x8))
  have r : FVec Ideal S256 .f32 := multiReduction .add [1] S256 e 0x00000000#32 reduces_S256x8_S256 (.inl rfl) rfl
  divf e (broadcastTo S256x8 (shapeCast S256x1 r shapeCasts_S256_S256x1) broadcasts_S256x1_S256x8)

/-- The indicator of each row's greatest entry. -/
def kone (g : FVec Ideal S256x8 .f32) : IVec S256x8 1 :=
  cmpi .eq (iota .tc S256x8 32 [1] iota_S256x8_d1_w32)
    (broadcastTo S256x8 (shapeCast S256x1 (reduceIndex .argMax 1 S256 g reduces_S256x8_S256) shapeCasts_S256_S256x1)
      broadcasts_S256x1_S256x8)

/-- Each row's greatest entry, on every lane. -/
def kmax (g : FVec Ideal S256x8 .f32) : FVec Ideal S256x1 .f32 :=
  shapeCast S256x1 (multiReduction .maximumf [1] S256 g 0xFF800000#32 reduces_S256x8_S256 (.inl rfl) rfl) shapeCasts_S256_S256x1

/-- The gates with each row's greatest entry taken out. -/
def krest (g : FVec Ideal S256x8 .f32) : FVec Ideal S256x8 .f32 :=
  select (kone g) (broadcast S256x8 (Scalar.ofBits .f32 0xFF800000#32 : Ideal .f32)) g

/-- An indicator times a row's greatest entry. -/
def kterm (o : IVec S256x8 1) (m : FVec Ideal S256x1 .f32) : FVec Ideal S256x8 .f32 :=
  mulf (sitofp .f32 (extui 32 o natLt_1_32)) (broadcastTo S256x8 m broadcasts_S256x1_S256x8)

/-- The weights are the two indicators times the two greatest entries. -/
theorem pay3_eq (v0 : Vec Ideal S256x1024 .f32) (v2 : Vec Ideal S1024x8 .f32) (v4 : Vec Ideal S1x8 .f32) :
    k1_pay3 v0 v2 v4 = addf (kterm (kone (kgates v0 v2 v4)) (kmax (kgates v0 v2 v4)))
      (kterm (kone (krest (kgates v0 v2 v4))) (kmax (krest (kgates v0 v2 v4)))) := rfl

/-- The gates of one token of a block: the softmax of its logits. -/
def gateRow (v0 : Vec Ideal S256x1024 .f32) (v2 : Vec Ideal S1024x8 .f32) (v4 : Vec Ideal S1x8 .f32) (s : Fin 256) :
    Fin 8 → EReal :=
  soft fun e => (∑ d : Fin 1024, v0 (ix2 s d) * v2 (ix2 d e)) + v4 (ix2 0 e)

/-- The gates at an index. -/
theorem kgates_apply (v0 : Vec Ideal S256x1024 .f32) (v2 : Vec Ideal S1024x8 .f32) (v4 : Vec Ideal S1x8 .f32)
    (s : Fin 256) (e : Fin 8) : kgates v0 v2 v4 (ix2 s e) = gateRow v0 v2 v4 s e := by
  unfold gateRow soft expo top
  simp only [← Lits.ofBits_neg_inf]
  pointwise [kgates, k1_pay2]

/-- The indicator of a row's greatest entry, at an index. -/
theorem kone_apply (g : FVec Ideal S256x8 .f32) (s : Fin 256) (a e : Fin 8)
    (h : ∀ e, e ≠ a → g (ix2 s e) < g (ix2 s a)) :
    kone g (ix2 s e) = if e = a then 1#1 else 0#1 := by
  pointwise [kone]
  rw [argmax_eq g s a h]
  fin_cases a <;> fin_cases e <;> rfl

/-- A row's greatest entry. -/
theorem kmax_apply (g : FVec Ideal S256x8 .f32) (s : Fin 256) (a : Fin 8)
    (h : ∀ e, g (ix2 s e) ≤ g (ix2 s a)) : kmax g (ix2 s 0) = g (ix2 s a) := by
  refine Eq.trans ?_ (top_eq (fun e => g (ix2 s e)) a h)
  unfold top
  simp only [← Lits.ofBits_neg_inf]
  pointwise [kmax]

/-- An indicator times a row's greatest entry, at an index. -/
theorem kterm_apply (o : IVec S256x8 1) (m : FVec Ideal S256x1 .f32) (s : Fin 256) (e : Fin 8) :
    kterm o m (ix2 s e) = (if o (ix2 s e) = 1#1 then 1 else 0) * m (ix2 s 0) := by
  pointwise [kterm]
  congr 1
  rcases BitVec.eq_zero_or_eq_one (o (ix2 s e)) with h | h <;> rw [h]
  · show (((BitVec.setWidth 32 0#1).toInt : ℝ) : EReal) = _
    simp
  · show (((BitVec.setWidth 32 1#1).toInt : ℝ) : EReal) = _
    simp

/-- Among eight entries there is one besides any two. -/
theorem exists_third (a b : Fin 8) : ∃ c : Fin 8, c ≠ a ∧ c ≠ b := by decide +revert

/-- The weights of a token whose two best gates are `a` and `b`: those two gates at those two experts, zero
    elsewhere. -/
theorem weights_apply (v0 : Vec Ideal S256x1024 .f32) (v2 : Vec Ideal S1024x8 .f32) (v4 : Vec Ideal S1x8 .f32)
    (s : Fin 256) (a b e : Fin 8) (h : Best (gateRow v0 v2 v4 s) a b) :
    k1_pay3 v0 v2 v4 (ix2 s e) = pick (gateRow v0 v2 v4 s) a b e := by
  rw [pay3_eq]
  show kterm _ _ (ix2 s e) + kterm _ _ (ix2 s e) = _
  have hg : ∀ e, kgates v0 v2 v4 (ix2 s e) = gateRow v0 v2 v4 s e := kgates_apply v0 v2 v4 s
  have h1 : ∀ e, e ≠ a → kgates v0 v2 v4 (ix2 s e) < kgates v0 v2 v4 (ix2 s a) := fun e he => by
    rw [hg, hg]; exact h.first e he
  have hr : ∀ e, krest (kgates v0 v2 v4) (ix2 s e) = if e = a then ⊥ else gateRow v0 v2 v4 s e := fun e => by
    show Scalar.select (kone (kgates v0 v2 v4) (ix2 s e)) (Ideal.ofBits .f32 0xFF800000#32) (kgates v0 v2 v4 (ix2 s e)) = _
    rw [kone_apply _ s a e h1, hg, Lits.ofBits_neg_inf]
    split <;> rfl
  have h2 : ∀ e, e ≠ b → krest (kgates v0 v2 v4) (ix2 s e) < krest (kgates v0 v2 v4) (ix2 s b) := fun e he => by
    rw [hr, hr, if_neg h.ne]
    split
    · obtain ⟨c, hca, hcb⟩ : ∃ c : Fin 8, c ≠ a ∧ c ≠ b := exists_third a b
      exact lt_of_le_of_lt bot_le (h.second c hca hcb)
    · next hne => exact h.second e hne he
  have le_of : ∀ (u : FVec Ideal S256x8 .f32) (c : Fin 8), (∀ e, e ≠ c → u (ix2 s e) < u (ix2 s c)) →
      ∀ e, u (ix2 s e) ≤ u (ix2 s c) := fun u c hu e => by
    rcases eq_or_ne e c with rfl | he
    · exact le_rfl
    · exact (hu e he).le
  rw [kterm_apply, kterm_apply, kone_apply _ s a e h1, kone_apply _ s b e h2, kmax_apply _ s a (le_of _ _ h1),
    kmax_apply _ s b (le_of _ _ h2), hr, hg, if_neg h.ne]
  unfold pick
  have h01 : (0#1 = 1#1) = False := by decide
  rcases eq_or_ne e a with rfl | hea
  · simp [h.ne.symm, h01]
  · rcases eq_or_ne e b with rfl | heb
    · simp [hea, h01]
    · simp [hea, heb, h01]

/-- The block the mixture call leaves, at a token and an output feature, when the token's two best gates are `a`
    and `b`. -/
theorem out1_8_apply (x0 x1 : Vec Ideal S256x1024 .f32) (x2 : Vec Ideal S1024x8 .f32) (x3 : Vec Ideal S1x8 .f32)
    (x4 : Vec Ideal S8x1024x1024 .f32) (x5 : Vec Ideal S8x1024 .f32) (x6 : Vec Ideal S1024x1024 .f32)
    (x7 : Vec Ideal S1x1024 .f32) (s : Fin 256) (c : Fin 1024) (a b : Fin 8) (h : Best (gateRow x0 x2 x3 s) a b) :
    out1_8 x0 x1 x2 x3 x4 x5 x6 x7 (ix2 s c)
      = final (mixK (pick (gateRow x0 x2 x3 s) a b) (fun k => x0 (ix2 s k)) (fun e k d => x4 (ix3 e k d))
          (fun e d => x5 (ix2 e d))) (fun d c => x6 (ix2 d c)) (fun c => x7 (ix2 0 c)) (fun c => x1 (ix2 s c)) c := by
  have z : (![0, 0] : Fin 2 → Nat) = fun _ => 0 := by funext i; fin_cases i <;> rfl
  unfold out1_8 k1_pay10 k1_pay9
  rw [View.canon_unit_zero (S := S256x1024) z]
  simp only [View.ld_unit_zero (S := S256x1024) z, View.ld_unit_zero (S := S1024x8) z, View.ld_unit_zero (S := S1x8) z,
    View.ld_unit_zero (S := S8x1024) z, View.ld_unit_zero (S := S1024x1024) z, View.ld_unit_zero (S := S1x1024) z]
  have hw : ∀ e, k1_pay3 x0 x2 x3 (ix2 s e) = pick (gateRow x0 x2 x3 s) a b e := fun e => weights_apply x0 x2 x3 s a b e h
  unfold final mixK expert
  simp only [← hw]
  pointwise [k1_pay1, k1_pay2, k1_pay4, k1_pay5, k1_pay6, k1_pay7, k1_pay8]

end Cert.KernelIdeal.Moe

end
-- ==== Proof.KBlocks.lean ====
module

public import proofs.«01_k».proof.Proof.KAttn
public import proofs.«01_k».proof.Proof.KMoe
public import Idealize.ShloMosaic.Lib.Pipeline.ValueKit

@[expose] public section

/-! # The arrays the two launches leave -/

set_option maxRecDepth 16384

noncomputable section

namespace Cert.KernelIdeal.Blocks

open Idealize.ShloMosaic Idealize.ShloMosaic.TcCoe Cert.KernelIdeal Cert.KernelIdeal.Gen Cert.Layer

variable (V : (c : Dev nD) → (b : Ref sig .tc) → Buf (Elt Ideal) ((c : Thread nD τ).loc b)) (c : Dev nD)

/-- The head of a column. -/
def headOf (y : Fin 1024) : Fin 16 := ⟨y / 64, by omega⟩

/-- The feature of a column within its head. -/
def featOf (y : Fin 1024) : Fin 64 := ⟨y % 64, by omega⟩

/-- The attention's array, from the arrays the first launch reads. -/
def attn (x : FVec Ideal S2048x1024 .bf16) (wq wk wv : FVec Ideal S1024x1024 .bf16) (bq bk bv : FVec Ideal S1x1024 .f32)
    (cs sn : Fin 2048 → Fin 64 → EReal) (y : S2048x1024.Idx) : EReal :=
  let X : Fin 2048 → Fin 1024 → EReal := fun s d => x (ix2 s d)
  headK
    (fun s f => rot (proj X (fun d c => wq (ix2 d c)) (fun c => bq (ix2 0 c)) (headOf (y 1)) s) (cs s) (sn s) f)
    (fun s f => rot (proj X (fun d c => wk (ix2 d c)) (fun c => bk (ix2 0 c)) (headOf (y 1)) s) (cs s) (sn s) f)
    (proj X (fun d c => wv (ix2 d c)) (fun c => bv (ix2 0 c)) (headOf (y 1))) (y 0) (featOf (y 1))

/-- Where each window's block lies at a point of the first launch. -/
theorem at0 : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val]
    ∧ win0_6.index t = ![0, t.val] ∧ win0_7.index t = ![0, 0] ∧ win0_8.index t = ![0, 0] ∧ win0_9.index t = ![0, t.val] := by
  decide +kernel

/-- Where each window's block lies at a point of the second launch. -/
theorem at1 : ∀ t : Fin cfg1.N, win1_0.index t = ![t.val, 0] ∧ win1_1.index t = ![t.val, 0] ∧ win1_2.index t = ![0, 0]
    ∧ win1_3.index t = ![0, 0] ∧ win1_4.index t = ![0, 0, 0] ∧ win1_5.index t = ![0, 0] ∧ win1_6.index t = ![0, 0]
    ∧ win1_7.index t = ![0, 0] ∧ win1_8.index t = ![t.val, 0] := by
  decide +kernel

/-- A column of a point's block. -/
def colOf (t : Fin cfg0.N) (l : Fin 128) : Fin 1024 := ⟨t.val * 128 + l, by
  have h := t.isLt
  have hN : cfg0.N = 8 := by decide
  omega⟩

/-- The tokens' block is the whole array. -/
theorem x_blk (t : Fin cfg0.N) (s : Fin 2048) (d : Fin 1024) :
    iblk0 V c 0 t (ix2 s d) = V c main_v1 (ix2 s d) := by
  blk_ext [iblk0, at0 t]

/-- The queries' weights at a block's column. -/
theorem wq_blk (t : Fin cfg0.N) (d : Fin 1024) (l : Fin 128) :
    iblk0 V c 1 t (ix2 d l) = V c main_v2 (ix2 d (colOf t l)) := by
  blk_ext [iblk0, at0 t, colOf]

/-- The keys' weights at a block's column. -/
theorem wk_blk (t : Fin cfg0.N) (d : Fin 1024) (l : Fin 128) :
    iblk0 V c 2 t (ix2 d l) = V c main_v3 (ix2 d (colOf t l)) := by
  blk_ext [iblk0, at0 t, colOf]

/-- The values' weights at a block's column. -/
theorem wv_blk (t : Fin cfg0.N) (d : Fin 1024) (l : Fin 128) :
    iblk0 V c 3 t (ix2 d l) = V c main_v4 (ix2 d (colOf t l)) := by
  blk_ext [iblk0, at0 t, colOf]

/-- The queries' bias at a block's column. -/
theorem bq_blk (t : Fin cfg0.N) (l : Fin 128) : iblk0 V c 4 t (ix2 0 l) = V c main_v31 (ix2 0 (colOf t l)) := by
  blk_ext [iblk0, at0 t, colOf]

/-- The keys' bias at a block's column. -/
theorem bk_blk (t : Fin cfg0.N) (l : Fin 128) : iblk0 V c 5 t (ix2 0 l) = V c main_v32 (ix2 0 (colOf t l)) := by
  blk_ext [iblk0, at0 t, colOf]

/-- The values' bias at a block's column. -/
theorem bv_blk (t : Fin cfg0.N) (l : Fin 128) : iblk0 V c 6 t (ix2 0 l) = V c main_v33 (ix2 0 (colOf t l)) := by
  blk_ext [iblk0, at0 t, colOf]

/-- The cosines' block is the whole table. -/
theorem cs_blk (t : Fin cfg0.N) (s : Fin 2048) (l : Fin 128) : iblk0 V c 7 t (ix2 s l) = V c main_v27 (ix2 s l) := by
  blk_ext [iblk0, at0 t]

/-- The sines' block is the whole table. -/
theorem sn_blk (t : Fin cfg0.N) (s : Fin 2048) (l : Fin 128) : iblk0 V c 8 t (ix2 s l) = V c main_v30 (ix2 s l) := by
  blk_ext [iblk0, at0 t]

/-- A row of the second launch's arrays, in the block of a point. -/
def rowOf (t : Fin cfg1.N) (s : Fin 256) : Fin 2048 := ⟨t.val * 256 + s, by
  have h := t.isLt
  have hN : cfg1.N = 8 := by decide
  omega⟩

/-- The attention's rows of a block. -/
theorem ao_blk (t : Fin cfg1.N) (s : Fin 256) (d : Fin 1024) :
    iblk1 V c 0 t (ix2 s d) = V c main_v34 (ix2 (rowOf t s) d) := by
  blk_ext [iblk1, at1 t, rowOf]

/-- The tokens' rows of a block. -/
theorem x2_blk (t : Fin cfg1.N) (s : Fin 256) (d : Fin 1024) :
    iblk1 V c 1 t (ix2 s d) = V c main_v0 (ix2 (rowOf t s) d) := by
  blk_ext [iblk1, at1 t, rowOf]

/-- The gates' weights are read whole. -/
theorem wg_blk (t : Fin cfg1.N) (d : Fin 1024) (e : Fin 8) : iblk1 V c 2 t (ix2 d e) = V c main_arg7 (ix2 d e) := by
  blk_ext [iblk1, at1 t]

/-- The gates' bias is read whole. -/
theorem bg_blk (t : Fin cfg1.N) (e : Fin 8) : iblk1 V c 3 t (ix2 0 e) = V c main_v35 (ix2 0 e) := by
  blk_ext [iblk1, at1 t]

/-- The experts' weights are read whole. -/
theorem we_blk (t : Fin cfg1.N) (e : Fin 8) (k d : Fin 1024) : iblk1 V c 4 t (ix3 e k d) = V c main_arg9 (ix3 e k d) := by
  blk_ext [iblk1, at1 t]

/-- The experts' biases are read whole. -/
theorem be_blk (t : Fin cfg1.N) (e : Fin 8) (d : Fin 1024) : iblk1 V c 5 t (ix2 e d) = V c main_arg10 (ix2 e d) := by
  blk_ext [iblk1, at1 t]

/-- The last projection's weights are read whole. -/
theorem wf_blk (t : Fin cfg1.N) (d f : Fin 1024) : iblk1 V c 6 t (ix2 d f) = V c main_arg11 (ix2 d f) := by
  blk_ext [iblk1, at1 t]

/-- The last projection's bias is read whole. -/
theorem bf_blk (t : Fin cfg1.N) (f : Fin 1024) : iblk1 V c 7 t (ix2 0 f) = V c main_v36 (ix2 0 f) := by
  blk_ext [iblk1, at1 t]

/-! ## The first launch -/

/-- Every lane of a block of two heads is a feature of one of them. -/
theorem lane_surj (l : Fin 128) : ∃ j f, l = Attn.lane j f :=
  ⟨⟨l / 64, by omega⟩, ⟨l % 64, by omega⟩, Fin.ext (by simp only [Attn.lane]; omega)⟩

/-- The columns of a block's head are those of one of the sixteen heads. -/
theorem col_headOf (t : Fin cfg0.N) (j : Fin 2) (f g : Fin 64) :
    col (headOf (colOf t (Attn.lane j f))) g = colOf t (Attn.lane j g) := by
  apply Fin.ext
  simp only [colOf, Attn.lane, col, headOf]
  omega

/-- The feature of a block's column. -/
theorem featOf_col (t : Fin cfg0.N) (j : Fin 2) (f : Fin 64) : featOf (colOf t (Attn.lane j f)) = f := by
  apply Fin.ext
  simp only [colOf, Attn.lane, featOf]
  omega

/-- What a point of the first launch leaves in its block. -/
theorem attn_point (cs sn : Fin 2048 → Fin 64 → EReal)
    (hc : ∀ s j f, V c main_v27 (ix2 s (Attn.lane j f)) = cs s f)
    (hs : ∀ s j f, V c main_v30 (ix2 s (Attn.lane j f)) = sn s f) (t : Fin cfg0.N) (s : Fin 2048) (j : Fin 2) (f : Fin 64) :
    out0_9 (iblk0 V c 0 t) (iblk0 V c 1 t) (iblk0 V c 2 t) (iblk0 V c 3 t) (iblk0 V c 4 t) (iblk0 V c 5 t)
      (iblk0 V c 6 t) (iblk0 V c 7 t) (iblk0 V c 8 t) (ix2 s (Attn.lane j f))
      = attn (V c main_v1) (V c main_v2) (V c main_v3) (V c main_v4) (V c main_v31) (V c main_v32) (V c main_v33) cs sn
        (ix2 s (colOf t (Attn.lane j f))) := by
  have hq : ∀ i, Attn.blkRot (Attn.blk (iblk0 V c 0 t) (iblk0 V c 1 t) (iblk0 V c 4 t)) (iblk0 V c 7 t) (iblk0 V c 8 t) j i
      = fun f' => rot (proj (fun s d => V c main_v1 (ix2 s d)) (fun d c' => V c main_v2 (ix2 d c'))
          (fun c' => V c main_v31 (ix2 0 c')) (headOf (colOf t (Attn.lane j f))) i) (cs i) (sn i) f' := fun i => by
    funext f'
    unfold Attn.blkRot Attn.blk proj dense
    simp only [x_blk, wq_blk, bq_blk, cs_blk, sn_blk, hc, hs, col_headOf]
  have hk : ∀ i, Attn.blkRot (Attn.blk (iblk0 V c 0 t) (iblk0 V c 2 t) (iblk0 V c 5 t)) (iblk0 V c 7 t) (iblk0 V c 8 t) j i
      = fun f' => rot (proj (fun s d => V c main_v1 (ix2 s d)) (fun d c' => V c main_v3 (ix2 d c'))
          (fun c' => V c main_v32 (ix2 0 c')) (headOf (colOf t (Attn.lane j f))) i) (cs i) (sn i) f' := fun i => by
    funext f'
    unfold Attn.blkRot Attn.blk proj dense
    simp only [x_blk, wk_blk, bk_blk, cs_blk, sn_blk, hc, hs, col_headOf]
  have hv : (fun i g => Attn.blk (iblk0 V c 0 t) (iblk0 V c 3 t) (iblk0 V c 6 t) i (Attn.lane j g))
      = proj (fun s d => V c main_v1 (ix2 s d)) (fun d c' => V c main_v4 (ix2 d c'))
          (fun c' => V c main_v33 (ix2 0 c')) (headOf (colOf t (Attn.lane j f))) := by
    funext i g
    unfold Attn.blk proj dense
    simp only [x_blk, wv_blk, bv_blk, col_headOf]
  rw [Attn.out0_9_apply]
  unfold Attn.blkHead
  rw [funext hq, funext hk, hv]
  show _ = headK _ _ _ s (featOf (colOf t (Attn.lane j f)))
  rw [featOf_col]
  rfl

/-- The array the first launch leaves, when its two tables hold the rotary cosines and sines. -/
theorem attn_arr (cs sn : Fin 2048 → Fin 64 → EReal)
    (hc : ∀ s j f, V c main_v27 (ix2 s (Attn.lane j f)) = cs s f)
    (hs : ∀ s j f, V c main_v30 (ix2 s (Attn.lane j f)) = sn s f) :
    (dat0 V c).arrAt 9 cfg0.N = attn (V c main_v1) (V c main_v2) (V c main_v3) (V c main_v4) (V c main_v31) (V c main_v32)
      (V c main_v33) cs sn := by
  refine (dat0 V c).arrAt_eq_of_covers 9 _ (by decide +kernel) fun t hf y => ?_
  blk_simp
  rw [after0_9]
  obtain ⟨j, f, hl⟩ := lane_surj (y 1 : Fin 128)
  have hp := attn_point V c cs sn hc hs t (y 0) j f
  rw [← hl] at hp
  have hy : y = ix2 (y 0 : Fin 2048) (y 1 : Fin 128) := eq_ix2 y
  have he : (win0_9.blk t).view.emb y = ix2 (y 0 : Fin 2048) (colOf t (y 1 : Fin 128)) := by
    blk_ext [at0 t, colOf]
  rw [he, hy]
  exact hp

/-! ## The second launch -/

/-- A token's row of gates, from the arrays the second launch reads. -/
def gatesOf (ao : FVec Ideal S2048x1024 .f32) (wg : FVec Ideal S1024x8 .f32) (bg : FVec Ideal S1x8 .f32) (s : Fin 2048) :
    Fin 8 → EReal := soft fun e => (∑ d, ao (ix2 s d) * wg (ix2 d e)) + bg (ix2 0 e)

/-- The layer's array, from the arrays the second launch reads and each token's two best experts. -/
def layer (ao x : FVec Ideal S2048x1024 .f32) (wg : FVec Ideal S1024x8 .f32) (bg : FVec Ideal S1x8 .f32)
    (we : FVec Ideal S8x1024x1024 .f32) (be : FVec Ideal S8x1024 .f32) (wf : FVec Ideal S1024x1024 .f32)
    (bf : FVec Ideal S1x1024 .f32) (a b : Fin 2048 → Fin 8) (y : S2048x1024.Idx) : EReal :=
  final (mixK (pick (gatesOf ao wg bg (y 0)) (a (y 0)) (b (y 0))) (fun k => ao (ix2 (y 0) k)) (fun e k d => we (ix3 e k d))
    (fun e d => be (ix2 e d))) (fun d c => wf (ix2 d c)) (fun c => bf (ix2 0 c)) (fun c => x (ix2 (y 0) c)) (y 1)

/-- What a point of the second launch leaves in its block. -/
theorem layer_point (a b : Fin 2048 → Fin 8)
    (hab : ∀ s, Best (gatesOf (V c main_v34) (V c main_arg7) (V c main_v35) s) (a s) (b s)) (t : Fin cfg1.N) (s : Fin 256)
    (f : Fin 1024) :
    out1_8 (iblk1 V c 0 t) (iblk1 V c 1 t) (iblk1 V c 2 t) (iblk1 V c 3 t) (iblk1 V c 4 t) (iblk1 V c 5 t)
      (iblk1 V c 6 t) (iblk1 V c 7 t) (ix2 s f)
      = layer (V c main_v34) (V c main_v0) (V c main_arg7) (V c main_v35) (V c main_arg9) (V c main_arg10) (V c main_arg11)
        (V c main_v36) a b (ix2 (rowOf t s) f) := by
  have hg : Moe.gateRow (iblk1 V c 0 t) (iblk1 V c 2 t) (iblk1 V c 3 t) s
      = gatesOf (V c main_v34) (V c main_arg7) (V c main_v35) (rowOf t s) := by
    unfold Moe.gateRow gatesOf
    simp only [ao_blk, wg_blk, bg_blk]
  rw [Moe.out1_8_apply _ _ _ _ _ _ _ _ s f (a (rowOf t s)) (b (rowOf t s)) (by rw [hg]; exact hab _), hg]
  simp only [ao_blk, x2_blk, we_blk, be_blk, wf_blk, bf_blk]
  rfl

/-- The array the second launch leaves. -/
theorem layer_arr (a b : Fin 2048 → Fin 8)
    (hab : ∀ s, Best (gatesOf (V c main_v34) (V c main_arg7) (V c main_v35) s) (a s) (b s)) :
    (dat1 V c).arrAt 8 cfg1.N = layer (V c main_v34) (V c main_v0) (V c main_arg7) (V c main_v35) (V c main_arg9)
      (V c main_arg10) (V c main_arg11) (V c main_v36) a b := by
  refine (dat1 V c).arrAt_eq_of_covers 8 _ (by decide +kernel) fun t hf y => ?_
  blk_simp
  rw [after1_8]
  have hp := layer_point V c a b hab t (y 0) (y 1)
  have hy : y = ix2 (y 0 : Fin 256) (y 1 : Fin 1024) := eq_ix2 y
  have he : (win1_8.blk t).view.emb y = ix2 (rowOf t (y 0 : Fin 256)) (y 1 : Fin 1024) := by
    blk_ext [at1 t, rowOf]
  rw [he, hy]
  exact hp

end Cert.KernelIdeal.Blocks

end
-- ==== Proof.KHost.lean ====
module

public import proofs.«01_k».proof.Proof.KBlocks
public import proofs.«01_k».proof.Proof.KRun
public import Idealize.ShloMosaic.Lib.StableHlo.RunRead
public import Idealize.ShloMosaic.Lib.Pointwise

@[expose] public section

/-! # The arrays the two launches read, and the kernel's result, from the arguments -/

set_option maxRecDepth 16384

noncomputable section

namespace Cert.KernelIdeal.Host

open Idealize.ShloMosaic Idealize.ShloMosaic.TcCoe Idealize.ShloMosaic.StableHlo Cert.KernelIdeal Cert.KernelIdeal.Gen Cert.Layer

/-- The inverse frequencies. -/
def freqs : FVec Ideal S32 .f32 :=
  Host.divf (broadcastInDim S32 ![] bcast_S_S32 (constant S_ .f32 0x3F800000#32))
    (Host.powf (broadcastInDim S32 ![] bcast_S_S32 (constant S_ .f32 0x461C4000#32))
      (Host.divf (addf (broadcastInDim S32 ![] bcast_S_S32 (constant S_ .f32 0x00000000#32))
          (mulf (broadcastInDim S32 ![] bcast_S_S32 (constant S_ .f32 0x40000000#32)) (sitofp .f32 (iotaInDim S32 32 0))))
        (broadcastInDim S32 ![] bcast_S_S32 (constant S_ .f32 0x42800000#32))))

/-- The products of positions and inverse frequencies. -/
def prods : FVec Ideal S2048x32 .f32 :=
  mulf (broadcastInDim S2048x32 ![0, 1] bcast_S2048x1_S2048x32_0_1
      (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1 freqs))

/-- The table of angles: the products twice, side by side. -/
def angles : FVec Ideal S2048x64 .f32 :=
  concatenate S2048x64 1 [⟨S2048x32, prods⟩, ⟨S2048x32, prods⟩] concatenates_S2048x32_S2048x32_S2048x64_d1

/-- A table over one head's features, laid out for the two heads of a block. -/
def twice (u : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 u shapeCasts_S2048x64_S1x2048x1x64)) shapeCasts_S1x2048x2x64_S2048x128

/-- An angle of the table. -/
theorem angles_apply (s : Fin 2048) (f : Fin 64) : angles (ix2 s f) = angle s f := by
  unfold angle invFreq
  pointwise [angles, prods, freqs]

/-- The laid-out table at a lane is the table at the lane's feature. -/
theorem twice_apply (u : FVec Ideal S2048x64 .f32) (s : Fin 2048) (j : Fin 2) (f : Fin 64) :
    twice u (ix2 s (Attn.lane j f)) = u (ix2 s f) := by
  unfold Attn.lane
  pointwise [twice]

variable (m : (ℓ : Loc nD τ sig) → Buf (Elt Ideal) ℓ) (ρ : Dev nD → PrngReg) (c : Dev nD)

/-- The first launch's table of cosines. -/
theorem cos_read : V1 m ρ c main_v27 = twice (Host.cos angles) := by
  show StableHlo.after hostOps0 (W0 m ρ c) (Proc.devRef .tc main_v27) = _
  after_reads_simp
  rfl

/-- The first launch's table of sines. -/
theorem sin_read : V1 m ρ c main_v30 = twice (Host.sin angles) := by
  show StableHlo.after hostOps0 (W0 m ρ c) (Proc.devRef .tc main_v30) = _
  after_reads_simp
  rfl

/-- The table of cosines at a lane. -/
theorem cos_lane (s : Fin 2048) (j : Fin 2) (f : Fin 64) : V1 m ρ c main_v27 (ix2 s (Attn.lane j f)) = cosT s f := by
  rw [cos_read, twice_apply]
  unfold cosT
  rw [← angles_apply]
  rfl

/-- The table of sines at a lane. -/
theorem sin_lane (s : Fin 2048) (j : Fin 2) (f : Fin 64) : V1 m ρ c main_v30 (ix2 s (Attn.lane j f)) = sinT s f := by
  rw [sin_read, twice_apply]
  unfold sinT
  rw [← angles_apply]
  rfl

/-- The inputs as a matrix. -/
theorem x_read : V1 m ρ c main_v0 = shapeCast S2048x1024 (m ((c : Thread nD τ).loc main_arg0)) shapeCasts_S1x2048x1024_S2048x1024 := by
  show StableHlo.after hostOps0 (W0 m ρ c) (Proc.devRef .tc main_v0) = _
  after_reads_simp
  rfl

/-- The inputs the first launch reads. -/
theorem x1_read : V1 m ρ c main_v1 = shapeCast S2048x1024 (m ((c : Thread nD τ).loc main_arg0)) shapeCasts_S1x2048x1024_S2048x1024 := by
  show StableHlo.after hostOps0 (W0 m ρ c) (Proc.devRef .tc main_v1) = _
  after_reads_simp
  rfl

/-- The queries' weights. -/
theorem wq_read : V1 m ρ c main_v2 = m ((c : Thread nD τ).loc main_arg1) := by
  show StableHlo.after hostOps0 (W0 m ρ c) (Proc.devRef .tc main_v2) = _
  after_reads_simp
  rfl

/-- The keys' weights. -/
theorem wk_read : V1 m ρ c main_v3 = m ((c : Thread nD τ).loc main_arg3) := by
  show StableHlo.after hostOps0 (W0 m ρ c) (Proc.devRef .tc main_v3) = _
  after_reads_simp
  rfl

/-- The values' weights. -/
theorem wv_read : V1 m ρ c main_v4 = m ((c : Thread nD τ).loc main_arg5) := by
  show StableHlo.after hostOps0 (W0 m ρ c) (Proc.devRef .tc main_v4) = _
  after_reads_simp
  rfl

/-- The queries' bias. -/
theorem bq_read : V1 m ρ c main_v31 = shapeCast S1x1024 (m ((c : Thread nD τ).loc main_arg2)) shapeCasts_S1024_S1x1024 := by
  show StableHlo.after hostOps0 (W0 m ρ c) (Proc.devRef .tc main_v31) = _
  after_reads_simp
  rfl

/-- The keys' bias. -/
theorem bk_read : V1 m ρ c main_v32 = shapeCast S1x1024 (m ((c : Thread nD τ).loc main_arg4)) shapeCasts_S1024_S1x1024 := by
  show StableHlo.after hostOps0 (W0 m ρ c) (Proc.devRef .tc main_v32) = _
  after_reads_simp
  rfl

/-- The values' bias. -/
theorem bv_read : V1 m ρ c main_v33 = shapeCast S1x1024 (m ((c : Thread nD τ).loc main_arg6)) shapeCasts_S1024_S1x1024 := by
  show StableHlo.after hostOps0 (W0 m ρ c) (Proc.devRef .tc main_v33) = _
  after_reads_simp
  rfl

/-- The gates' bias. -/
theorem bg_read : V3 m ρ c main_v35 = shapeCast S1x8 (m ((c : Thread nD τ).loc main_arg8)) shapeCasts_S8_S1x8 := by
  have h := W2_args m ρ c main_arg8 (by decide)
  show StableHlo.after hostOps1 (W2 m ρ c) (Proc.devRef .tc main_v35) = _
  rw [← h]
  generalize W2 m ρ c = U
  after_reads_simp
  rfl

/-- The last projection's bias. -/
theorem bf_read : V3 m ρ c main_v36 = shapeCast S1x1024 (m ((c : Thread nD τ).loc main_arg12)) shapeCasts_S1024_S1x1024 := by
  have h := W2_args m ρ c main_arg12 (by decide)
  show StableHlo.after hostOps1 (W2 m ρ c) (Proc.devRef .tc main_v36) = _
  rw [← h]
  generalize W2 m ρ c = U
  after_reads_simp
  rfl

/-- The inputs that the second launch reads are those of the start. -/
theorem x3_read : V3 m ρ c main_v0 = shapeCast S2048x1024 (m ((c : Thread nD τ).loc main_arg0)) shapeCasts_S1x2048x1024_S2048x1024 :=
  ((W3_of m ρ c main_v0 (by decide)).trans (W2_of m ρ c main_v0 (by decide))).trans (x_read m ρ c)

/-- A matrix over tokens, from the array with a batch axis. -/
theorem tokens_apply (x : FVec Ideal S1x2048x1024 .f32) (s : Fin 2048) (d : Fin 1024) :
    shapeCast S2048x1024 x shapeCasts_S1x2048x1024_S2048x1024 (ix2 s d) = x (ix3 0 s d) := by
  pointwise []

/-- A bias as one row. -/
theorem bias_apply (b : FVec Ideal S1024 .f32) (f : Fin 1024) :
    shapeCast S1x1024 b shapeCasts_S1024_S1x1024 (ix2 0 f) = b (ix1 f) := by
  pointwise []

/-- The gates' bias as one row. -/
theorem gateBias_apply (b : FVec Ideal S8 .f32) (e : Fin 8) :
    shapeCast S1x8 b shapeCasts_S8_S1x8 (ix2 0 e) = b (ix1 e) := by
  pointwise []

/-- The result with a batch axis. -/
theorem batch_apply (y : FVec Ideal S2048x1024 .f32) (s : Fin 2048) (f : Fin 1024) :
    shapeCast S1x2048x1024 y shapeCasts_S2048x1024_S1x2048x1024 (ix3 0 s f) = y (ix2 s f) := by
  pointwise []

/-- The first launch's attention of arrays laid out by the host, at an index: a head's attention with the division
    last, of the projections. -/
theorem attn_apply (x : FVec Ideal S1x2048x1024 .f32) (wq wk wv : FVec Ideal S1024x1024 .f32) (bq bk bv : FVec Ideal S1024 .f32)
    (s : Fin 2048) (d : Fin 1024) :
    Blocks.attn (shapeCast S2048x1024 x shapeCasts_S1x2048x1024_S2048x1024) wq wk wv (shapeCast S1x1024 bq shapeCasts_S1024_S1x1024)
        (shapeCast S1x1024 bk shapeCasts_S1024_S1x1024) (shapeCast S1x1024 bv shapeCasts_S1024_S1x1024) cosT sinT (ix2 s d)
      = headK
          (projRot (fun s d => x (ix3 0 s d)) (fun d e => wq (ix2 d e)) (fun e => bq (ix1 e)) (Blocks.headOf d))
          (projRot (fun s d => x (ix3 0 s d)) (fun d e => wk (ix2 d e)) (fun e => bk (ix1 e)) (Blocks.headOf d))
          (proj (fun s d => x (ix3 0 s d)) (fun d e => wv (ix2 d e)) (fun e => bv (ix1 e)) (Blocks.headOf d))
          s (Blocks.featOf d) := by
  have hx : (fun (s : Fin 2048) (d : Fin 1024) => shapeCast S2048x1024 x shapeCasts_S1x2048x1024_S2048x1024 (ix2 s d))
      = fun s d => x (ix3 0 s d) := funext fun s => funext fun d => tokens_apply x s d
  have hb : ∀ b : FVec Ideal S1024 .f32, (fun e : Fin 1024 => shapeCast S1x1024 b shapeCasts_S1024_S1x1024 (ix2 0 e))
      = fun e => b (ix1 e) := fun b => funext fun e => bias_apply b e
  unfold projRot
  rw [← hx, ← hb bq, ← hb bk, ← hb bv]
  rfl

/-- The second launch's gates, the bias laid out by the host. -/
theorem gatesOf_apply (ao : FVec Ideal S2048x1024 .f32) (wg : FVec Ideal S1024x8 .f32) (bg : FVec Ideal S8 .f32) (s : Fin 2048) :
    Blocks.gatesOf ao wg (shapeCast S1x8 bg shapeCasts_S8_S1x8) s
      = soft fun e => (∑ d, ao (ix2 s d) * wg (ix2 d e)) + bg (ix1 e) := by
  unfold Blocks.gatesOf
  simp only [gateBias_apply]

/-- The second launch's result of arrays laid out by the host, at an index. -/
theorem layer_apply (ao : FVec Ideal S2048x1024 .f32) (x : FVec Ideal S1x2048x1024 .f32) (wg : FVec Ideal S1024x8 .f32)
    (bg : FVec Ideal S1x8 .f32) (we : FVec Ideal S8x1024x1024 .f32) (be : FVec Ideal S8x1024 .f32)
    (wf : FVec Ideal S1024x1024 .f32) (bf : FVec Ideal S1024 .f32) (a b : Fin 2048 → Fin 8) (s : Fin 2048) (f : Fin 1024) :
    Blocks.layer ao (shapeCast S2048x1024 x shapeCasts_S1x2048x1024_S2048x1024) wg bg we be wf
        (shapeCast S1x1024 bf shapeCasts_S1024_S1x1024) a b (ix2 s f)
      = final (mixK (pick (Blocks.gatesOf ao wg bg s) (a s) (b s)) (fun k => ao (ix2 s k)) (fun e k d => we (ix3 e k d))
          (fun e d => be (ix2 e d))) (fun d f => wf (ix2 d f)) (fun f => bf (ix1 f)) (fun f => x (ix3 0 s f)) f := by
  have hx : (fun (d : Fin 1024) => shapeCast S2048x1024 x shapeCasts_S1x2048x1024_S2048x1024 (ix2 s d))
      = fun d => x (ix3 0 s d) := funext fun d => tokens_apply x s d
  have hb : (fun e : Fin 1024 => shapeCast S1x1024 bf shapeCasts_S1024_S1x1024 (ix2 0 e))
      = fun e => bf (ix1 e) := funext fun e => bias_apply bf e
  rw [← hx, ← hb]
  rfl

/-- The attention that the second launch reads. -/
abbrev ao : FVec Ideal S2048x1024 .f32 := V3 m ρ c main_v34

/-- The gates of the second launch, by token. -/
abbrev gates : Fin 2048 → Fin 8 → EReal :=
  Blocks.gatesOf (V3 m ρ c main_v34) (V3 m ρ c main_arg7) (V3 m ρ c main_v35)

/-- The attention that the second launch reads, from the arguments. -/
theorem attn_read :
    V3 m ρ c main_v34
      = Blocks.attn (shapeCast S2048x1024 (m ((c : Thread nD τ).loc main_arg0)) shapeCasts_S1x2048x1024_S2048x1024)
          (m ((c : Thread nD τ).loc main_arg1)) (m ((c : Thread nD τ).loc main_arg3)) (m ((c : Thread nD τ).loc main_arg5))
          (shapeCast S1x1024 (m ((c : Thread nD τ).loc main_arg2)) shapeCasts_S1024_S1x1024)
          (shapeCast S1x1024 (m ((c : Thread nD τ).loc main_arg4)) shapeCasts_S1024_S1x1024)
          (shapeCast S1x1024 (m ((c : Thread nD τ).loc main_arg6)) shapeCasts_S1024_S1x1024) cosT sinT := by
  have h : V3 m ρ c main_v34 = (dat0 (V1 m ρ) c).arrAt 9 cfg0.N :=
    (W3_of m ρ c main_v34 (by decide)).trans (W2_arr m ρ c 9)
  rw [h, Blocks.attn_arr (V1 m ρ) c cosT sinT (cos_lane m ρ c) (sin_lane m ρ c), x1_read, wq_read, wk_read, wv_read,
    bq_read, bk_read, bv_read]

/-- The second launch's gates, from the arguments and the attention it reads. -/
theorem gates_read (s : Fin 2048) :
    gates m ρ c s
      = soft fun e => (∑ d, ao m ρ c (ix2 s d) * (m ((c : Thread nD τ).loc main_arg7) : FVec Ideal S1024x8 .f32) (ix2 d e))
          + (m ((c : Thread nD τ).loc main_arg8) : FVec Ideal S8 .f32) (ix1 e) := by
  rw [← gatesOf_apply]
  unfold gates
  rw [bg_read, show V3 m ρ c main_arg7 = _ from W3_args m ρ c main_arg7 (by decide)]

/-- The kernel's result at an index, where the two best gates of every token are `a` and `b`. -/
theorem result_read (a b : Fin 2048 → Fin 8) (hab : ∀ s, Best (gates m ρ c s) (a s) (b s)) (s : Fin 2048) (f : Fin 1024) :
    W5 m ρ c (Proc.devRef .tc main_v38) (ix3 0 s f)
      = final (mixK (pick (gates m ρ c s) (a s) (b s)) (fun k => ao m ρ c (ix2 s k))
            (fun e k d => m ((c : Thread nD τ).loc main_arg9) (ix3 e k d)) (fun e d => m ((c : Thread nD τ).loc main_arg10) (ix2 e d)))
          (fun d f => m ((c : Thread nD τ).loc main_arg11) (ix2 d f)) (fun f => m ((c : Thread nD τ).loc main_arg12) (ix1 f))
          (fun f => m ((c : Thread nD τ).loc main_arg0) (ix3 0 s f)) f := by
  have h : W5 m ρ c (Proc.devRef .tc main_v38)
      = shapeCast S1x2048x1024 (W4 m ρ c (Proc.devRef .tc main_v37)) shapeCasts_S2048x1024_S1x2048x1024 := by
    show StableHlo.after hostOps2 (W4 m ρ c) (Proc.devRef .tc main_v38) = _
    generalize W4 m ρ c = U
    after_reads_simp
    rfl
  rw [h, batch_apply, show W4 m ρ c (Proc.devRef .tc main_v37) = (dat1 (V3 m ρ) c).arrAt 8 cfg1.N from W4_arr m ρ c 8,
    Blocks.layer_arr (V3 m ρ) c a b hab, bf_read, x3_read,
    show V3 m ρ c main_arg9 = _ from W3_args m ρ c main_arg9 (by decide),
    show V3 m ρ c main_arg10 = _ from W3_args m ρ c main_arg10 (by decide),
    show V3 m ρ c main_arg11 = _ from W3_args m ρ c main_arg11 (by decide), layer_apply]

end Cert.KernelIdeal.Host

end
-- ==== Proof.RefAttn.lean ====
module

public import proofs.«01_k».proof.Proof.Spec
public import proofs.«01_k».proof.Proof.Lits
public import proofs.«01_k».proof.Proof.Gen.ReferenceIdeal.Read
public import Idealize.ShloMosaic.Lib.Pointwise

@[expose] public section

/-! # The reference's attention, read at an index -/

noncomputable section

namespace Cert.ReferenceIdeal.Attn

open Idealize.ShloMosaic Cert.ReferenceIdeal Cert.ReferenceIdeal.Read Cert.Layer

set_option maxRecDepth 16384

/-- The inputs, as a matrix over tokens and features. -/
abbrev X (x : FVec Ideal S1x2048x1024 .f32) (s : Fin 2048) (d : Fin 1024) : EReal := x (ix3 0 s d)

/-- A square matrix of weights. -/
abbrev M (w : FVec Ideal S1024x1024 .f32) (d c : Fin 1024) : EReal := w (ix2 d c)

/-- A bias over the model's width. -/
abbrev B (b : FVec Ideal S1024 .f32) (c : Fin 1024) : EReal := b (ix1 c)

/-- The table of cosines. -/
theorem cos_apply (s : Fin 2048) (f : Fin 64) : val_main_v18 (F := Ideal) (ix2 s f) = cosT s f := by
  unfold cosT angle invFreq
  pointwise [val_main_v18, val_main_v17, val_main_v16, val_main_v14, val_main_v15, val_main_v12, val_main_v13,
    val_main_v11, val_main_v10, val_main_v9, val_main_v8, val_main_v7, val_main_v6, val_main_v5, val_main_v4,
    val_main_v3, val_main_v2, val_main_v1, val_main_v0, val_main_cst, val_main_cst_0, val_main_cst_1, val_main_cst_2, val_main_cst_3]

/-- The table of sines. -/
theorem sin_apply (s : Fin 2048) (f : Fin 64) : val_main_v19 (F := Ideal) (ix2 s f) = sinT s f := by
  unfold sinT angle invFreq
  pointwise [val_main_v19, val_main_v17, val_main_v16, val_main_v14, val_main_v15, val_main_v12, val_main_v13,
    val_main_v11, val_main_v10, val_main_v9, val_main_v8, val_main_v7, val_main_v6, val_main_v5, val_main_v4,
    val_main_v3, val_main_v2, val_main_v1, val_main_v0, val_main_cst, val_main_cst_0, val_main_cst_1, val_main_cst_2, val_main_cst_3]

variable (x : FVec Ideal S1x2048x1024 .f32) (w1 w3 w5 : FVec Ideal S1024x1024 .f32) (b2 b4 b6 : FVec Ideal S1024 .f32)

/-- The queries' projection at an index. -/
theorem q_apply (s : Fin 2048) (h : Fin 16) (f : Fin 64) :
    val_main_v26 (F := Ideal) x w1 b2 (ix4 0 s h f) = proj (X x) (M w1) (B b2) h s f := by
  unfold proj dense col
  pointwise [val_main_v26, val_main_v25, val_main_v24, val_main_v22, val_main_v23]

/-- The keys' projection at an index. -/
theorem k_apply (s : Fin 2048) (h : Fin 16) (f : Fin 64) :
    val_main_v31 (F := Ideal) x w3 b4 (ix4 0 s h f) = proj (X x) (M w3) (B b4) h s f := by
  unfold proj dense col
  pointwise [val_main_v31, val_main_v30, val_main_v29, val_main_v28, val_main_v27]

/-- The values' projection at an index. -/
theorem v_apply (s : Fin 2048) (h : Fin 16) (f : Fin 64) :
    val_main_v36 (F := Ideal) x w5 b6 (ix4 0 s h f) = proj (X x) (M w5) (B b6) h s f := by
  unfold proj dense col
  pointwise [val_main_v36, val_main_v35, val_main_v34, val_main_v33, val_main_v32]

/-- The rotated queries at an index. -/
theorem qr_apply (s : Fin 2048) (h : Fin 16) (f : Fin 64) :
    val_main_v55 (F := Ideal) x w1 b2 (ix4 0 h s f) = projRot (X x) (M w1) (B b2) h s f := by
  unfold projRot rot half
  simp only [← q_apply, ← cos_apply, ← sin_apply]
  pointwise [val_main_v55, val_main_v45, val_main_v44, val_main_v43, val_main_v42, val_main_v41, val_main_v40, val_main_v39,
    val_main_v38, val_main_v37, val_main_v21, val_main_v20]

/-- The rotated keys at an index. -/
theorem kr_apply (s : Fin 2048) (h : Fin 16) (f : Fin 64) :
    val_main_v56 (F := Ideal) x w3 b4 (ix4 0 h s f) = projRot (X x) (M w3) (B b4) h s f := by
  unfold projRot rot half
  simp only [← k_apply, ← cos_apply, ← sin_apply]
  pointwise [val_main_v56, val_main_v54, val_main_v53, val_main_v52, val_main_v51, val_main_v50, val_main_v49, val_main_v48,
    val_main_v47, val_main_v46, val_main_v21, val_main_v20]

/-- Eight is the square root of the literal that the scores are divided by. -/
theorem sqrt_lit : Ideal.sqrt (Ideal.ofBits .f32 0x42800000#32) = ((8 : ℝ) : EReal) := by
  rw [Lits.ofBits_sixty_four]
  show (if (64 : ℝ) < 0 then ⊥ else ((Real.sqrt 64 : ℝ) : EReal)) = _
  rw [if_neg (by norm_num), show (64 : ℝ) = 8 ^ 2 by norm_num, Real.sqrt_sq (by norm_num)]

/-- A division by eight is a product with one eighth. -/
theorem div_eight (y : EReal) : Ideal.div y ((8 : ℝ) : EReal) = y * (8 : EReal)⁻¹ := by
  unfold Ideal.div
  rw [if_neg (by norm_num)]
  rfl

/-- The products of queries and keys at an index. -/
theorem dots_apply (h : Fin 16) (i j : Fin 2048) :
    val_main_v58 (F := Ideal) x w1 b2 w3 b4 (ix4 0 h i j)
      = ∑ f, projRot (X x) (M w1) (B b2) h i f * projRot (X x) (M w3) (B b4) h j f := by
  refine Eq.trans ?_ (Finset.sum_congr rfl fun f _ =>
    congrArg₂ (· * ·) (qr_apply x w1 b2 i h f) (kr_apply x w3 b4 j h f))
  unfold val_main_v58
  generalize val_main_v55 (F := Ideal) x w1 b2 = u
  generalize val_main_v56 (F := Ideal) x w3 b4 = v
  pointwise []

/-- The scores at an index. -/
theorem score_apply (h : Fin 16) (i j : Fin 2048) :
    val_main_v61 (F := Ideal) x w1 b2 w3 b4 (ix4 0 h i j)
      = score (projRot (X x) (M w1) (B b2) h) (projRot (X x) (M w3) (B b4) h) i j := by
  unfold score
  rw [← dots_apply, ← div_eight, ← sqrt_lit]
  unfold val_main_v61
  generalize val_main_v58 (F := Ideal) x w1 b2 w3 b4 = u
  pointwise [val_main_v60, val_main_v59, val_main_cst_4]

end Cert.ReferenceIdeal.Attn

end
-- ==== Proof.RefSoft.lean ====
module

public import proofs.«01_k».proof.Proof.RefAttn

@[expose] public section

/-! # The reference's softmax over the keys, and the attention's output -/

noncomputable section

namespace Cert.ReferenceIdeal.Attn

open Idealize.ShloMosaic Cert.ReferenceIdeal Cert.ReferenceIdeal.Read Cert.Layer

set_option maxRecDepth 16384

variable (x : FVec Ideal S1x2048x1024 .f32) (w1 w3 w5 : FVec Ideal S1024x1024 .f32) (b2 b4 b6 : FVec Ideal S1024 .f32)

/-- The scores' rows are reduced over their last axis. -/
theorem redKeys : Shape.Reduces S1x16x2048x2048 [3] S1x16x2048 := by decide

/-- The greatest entry of a row of scores, folded from an initial value. -/
theorem reduce_apply (u : FVec Ideal S1x16x2048x2048 .f32) (z : FVec Ideal S_ .f32) (h : Fin 16) (i : Fin 2048) :
    Host.reduce FloatOps.maximumf u z Gen.reducesTo_S1x16x2048x2048_S1x16x2048_d3 Gen.h_S_ (ix3 0 h i)
      = Finset.univ.fold max (z ix0) (fun j : Fin 2048 => u (ix4 0 h i j)) := by
  refine (Host.reduce_eq_fold_single _ u z Gen.reducesTo_S1x16x2048x2048_S1x16x2048_d3 redKeys Gen.h_S_ (ix3 0 h i)).trans ?_
  have hz : z (Shape.Idx.first Gen.h_S_) = z ix0 := congrArg z (funext fun a => a.elim0)
  have hu : u ∘ redKeys.lift (ix3 0 h i) = fun j : Fin 2048 => u (ix4 0 h i j) := funext fun j => congrArg u (by
    funext a
    match a with
    | ⟨0, _⟩ => rfl
    | ⟨1, _⟩ => rfl
    | ⟨2, _⟩ => rfl
    | ⟨3, _⟩ => rfl)
  rw [hz, hu]
  rfl

/-- The greatest score of a query. -/
theorem max_apply (h : Fin 16) (i : Fin 2048) :
    val_main_v64 (F := Ideal) x w1 b2 w3 b4 (ix3 0 h i)
      = top fun j => val_main_v61 (F := Ideal) x w1 b2 w3 b4 (ix4 0 h i j) := by
  have hb : ∀ i, val_main_v63 (F := Ideal) i = (⊥ : EReal) := fun i => Lits.ofBits_neg_inf
  rw [val_main_v64_apply, hb]
  refine (max_eq_right bot_le).trans ?_
  unfold val_main_v62 top
  generalize val_main_v61 (F := Ideal) x w1 b2 w3 b4 = u
  rw [reduce_apply, show val_main_cst_5 (F := Ideal) ix0 = (⊥ : EReal) from Lits.ofBits_neg_inf]

/-- The exponential of a score less the query's greatest. -/
theorem exp_apply (h : Fin 16) (i j : Fin 2048) :
    val_main_v68 (F := Ideal) x w1 b2 w3 b4 (ix4 0 h i j)
      = expo (fun j => val_main_v61 (F := Ideal) x w1 b2 w3 b4 (ix4 0 h i j)) j := by
  unfold expo
  rw [← max_apply]
  unfold val_main_v68 val_main_v67 val_main_v66 val_main_v65
  generalize val_main_v61 (F := Ideal) x w1 b2 w3 b4 = u
  generalize val_main_v64 (F := Ideal) x w1 b2 w3 b4 = v
  pointwise []

/-- The sum of a query's exponentials. -/
theorem sum_apply (h : Fin 16) (i : Fin 2048) :
    val_main_v69 (F := Ideal) x w1 b2 w3 b4 (ix3 0 h i)
      = ∑ j, val_main_v68 (F := Ideal) x w1 b2 w3 b4 (ix4 0 h i j) := by
  unfold val_main_v69
  generalize val_main_v68 (F := Ideal) x w1 b2 w3 b4 = u
  pointwise [val_main_cst_7]

/-- The softmax of the scores at an index. -/
theorem soft_apply (h : Fin 16) (i j : Fin 2048) :
    val_main_v72 (F := Ideal) x w1 b2 w3 b4 (ix4 0 h i j)
      = soft (score (projRot (X x) (M w1) (B b2) h) (projRot (X x) (M w3) (B b4) h) i) j := by
  have hs : score (projRot (X x) (M w1) (B b2) h) (projRot (X x) (M w3) (B b4) h) i
      = fun j => val_main_v61 (F := Ideal) x w1 b2 w3 b4 (ix4 0 h i j) := funext fun j => (score_apply ..).symm
  rw [hs]
  unfold soft
  simp only [← exp_apply]
  rw [← sum_apply]
  unfold val_main_v72 val_main_v71 val_main_v70
  generalize val_main_v68 (F := Ideal) x w1 b2 w3 b4 = u
  generalize val_main_v69 (F := Ideal) x w1 b2 w3 b4 = v
  pointwise []

/-- The attention's output before its heads are laid side by side. -/
theorem heads_apply (h : Fin 16) (i : Fin 2048) (f : Fin 64) :
    val_main_v73 (F := Ideal) x w1 b2 w3 b4 w5 b6 (ix4 0 h i f)
      = headR (projRot (X x) (M w1) (B b2) h) (projRot (X x) (M w3) (B b4) h) (proj (X x) (M w5) (B b6) h) i f := by
  unfold headR
  refine Eq.trans ?_ (Finset.sum_congr rfl fun j _ =>
    congrArg₂ (· * ·) (soft_apply x w1 w3 b2 b4 h i j) (v_apply x w5 b6 j h f))
  unfold val_main_v73 val_main_v57
  generalize val_main_v72 (F := Ideal) x w1 b2 w3 b4 = u
  generalize val_main_v36 (F := Ideal) x w5 b6 = v
  pointwise []

/-- The attention's output. -/
theorem attn_apply (h : Fin 16) (i : Fin 2048) (f : Fin 64) :
    val_main_v75 (F := Ideal) x w1 b2 w3 b4 w5 b6 (ix3 0 i (col h f))
      = headR (projRot (X x) (M w1) (B b2) h) (projRot (X x) (M w3) (B b4) h) (proj (X x) (M w5) (B b6) h) i f := by
  rw [← heads_apply]
  unfold val_main_v75 val_main_v74 col
  generalize val_main_v73 (F := Ideal) x w1 b2 w3 b4 w5 b6 = u
  pointwise []

end Cert.ReferenceIdeal.Attn

end
-- ==== Proof.RefGates.lean ====
module

public import proofs.«01_k».proof.Proof.RefSoft
public import Idealize.ShloMosaic.Lib.SortFacts

@[expose] public section

/-! # The reference's gates and its two best experts -/

noncomputable section

namespace Cert.ReferenceIdeal.Gates

open Idealize.ShloMosaic Cert.ReferenceIdeal Cert.ReferenceIdeal.Read Cert.Layer

set_option maxRecDepth 16384

/-! ## The sort of a row of gates -/

/-- The order a row of gates is sorted by: the greater first. -/
def before (g : Fin 8 → EReal) (k k' : Fin 8) : Bool := FloatOps.cmpfTotal (F := Ideal) (φ := .f32) .gt (g k) (g k') == 1#1

/-- A gate comes before another exactly when it is greater. -/
theorem before_iff (g : Fin 8 → EReal) (k k' : Fin 8) : before g k k' = true ↔ g k' < g k := by
  unfold before
  have h : FloatOps.cmpfTotal (F := Ideal) (φ := .f32) .gt (g k) (g k') = BitVec.ofBool (decide (g k' < g k)) := rfl
  rw [h]
  by_cases hl : g k' < g k <;> simp [hl]

/-- No later gate of the sorted row is greater than an earlier one. -/
theorem sorted (g : Fin 8 → EReal) (i j : Fin 8) (hij : i < j) :
    g (sortedFrom (before g) j) ≤ g (sortedFrom (before g) i) := by
  have hf : ∀ k k', before g k k' = false ↔ g k ≤ g k' := fun k k' => by
    rw [← not_lt, ← before_iff, Bool.not_eq_true]
  have h := sortedFrom_noInversion (before g) (before g)
    (fun a b h => (hf b a).2 ((before_iff g a b).1 h).le) (fun _ _ h => h)
    (fun a b c h h' => (hf a c).2 (((hf a b).1 h).trans ((hf b c).1 h'))) i j hij
  exact (hf _ _).1 h

/-- The best gate is sorted to the front. -/
theorem sorted_first {g : Fin 8 → EReal} {a b : Fin 8} (h : Best g a b) : sortedFrom (before g) 0 = a := by
  by_contra hne
  obtain ⟨p, hp⟩ := sortedFrom_surjective (before g) a
  have hp0 : p ≠ 0 := fun h0 => hne (h0 ▸ hp)
  have hs := sorted g 0 p (Fin.pos_of_ne_zero hp0)
  rw [hp] at hs
  exact absurd (h.first _ hne) (not_lt.2 hs)

/-- The second best gate is sorted to the second place. -/
theorem sorted_second {g : Fin 8 → EReal} {a b : Fin 8} (h : Best g a b) : sortedFrom (before g) 1 = b := by
  by_contra hne
  have h0 := sorted_first h
  obtain ⟨p, hp⟩ := sortedFrom_surjective (before g) b
  have hp0 : p ≠ 0 := fun e => h.ne (by rw [← hp, e, h0])
  have hp1 : p ≠ 1 := fun e => hne (e ▸ hp)
  have hna : sortedFrom (before g) 1 ≠ a := fun e =>
    absurd (sortedFrom_injective (before g) (e.trans h0.symm)) (by decide)
  have hlt : (1 : Fin 8) < p := by
    rcases Nat.lt_or_ge 1 p.val with hl | hl
    · exact hl
    · have hv0 : p.val ≠ 0 := fun e => hp0 (Fin.ext e)
      have hv1 : p.val ≠ 1 := fun e => hp1 (Fin.ext e)
      omega
  have hs := sorted g 1 p hlt
  rw [hp] at hs
  exact absurd (h.second _ hna hne) (not_lt.2 hs)

/-! ## The two best -/

/-- The expert's coordinate of an index of the gates, replaced. -/
theorem along_ix (s : Fin 2048) (p : Fin 8) (h : 2 < S1x2048x8.rank) (k : Fin (S1x2048x8.size ⟨2, h⟩)) :
    (ix3 0 s p : S1x2048x8.Idx).along ⟨2, h⟩ k = ix3 0 s (k : Fin 8) := by
  funext a
  match a with
  | ⟨0, _⟩ => rfl
  | ⟨1, _⟩ => rfl
  | ⟨2, _⟩ => rfl

/-- The gates sorted: the value at a place of a token's row is the gate the sort puts there. -/
theorem sort_fst (u : FVec Ideal S1x2048x8 .f32) (y : IVec S1x2048x8 32) (s : Fin 2048) (p : Fin 8) :
    (Host.sort2 S1x2048x8 2 (fun l r => FloatOps.cmpfTotal (F := Ideal) (φ := .f32) .gt l.1 r.1) u y).1 (ix3 0 s p)
      = u (ix3 0 s (sortedFrom (before fun e => u (ix3 0 s e)) p)) := by
  unfold Host.sort2
  have h2 : 2 < S1x2048x8.rank := by decide
  rw [dif_pos h2]
  have hg : (fun k => u ((ix3 0 s p : S1x2048x8.Idx).along ⟨2, h2⟩ k)) = fun e : Fin 8 => u (ix3 0 s e) :=
    funext fun k => congrArg u (along_ix s p h2 k)
  refine (congrArg u (along_ix s p _ _)).trans ?_
  exact congrArg (fun g => u (ix3 0 s (sortedFrom (before g) p))) hg

/-- The positions sorted along with the gates. -/
theorem sort_snd (u : FVec Ideal S1x2048x8 .f32) (y : IVec S1x2048x8 32) (s : Fin 2048) (p : Fin 8) :
    (Host.sort2 S1x2048x8 2 (fun l r => FloatOps.cmpfTotal (F := Ideal) (φ := .f32) .gt l.1 r.1) u y).2 (ix3 0 s p)
      = y (ix3 0 s (sortedFrom (before fun e => u (ix3 0 s e)) p)) := by
  unfold Host.sort2
  have h2 : 2 < S1x2048x8.rank := by decide
  rw [dif_pos h2]
  have hg : (fun k => u ((ix3 0 s p : S1x2048x8.Idx).along ⟨2, h2⟩ k)) = fun e : Fin 8 => u (ix3 0 s e) :=
    funext fun k => congrArg u (along_ix s p h2 k)
  refine (congrArg y (along_ix s p _ _)).trans ?_
  exact congrArg (fun g => y (ix3 0 s (sortedFrom (before g) p))) hg

/-- A place among the first two of a row of eight. -/
theorem slice_ix (s : Fin 2048) (r : Fin 2) (p : Fin 8) (hp : p.val = r.val) (h : S1x2048x8.Slices (fun _ => 0) S1x2048x2) :
    (fun a : Fin S1x2048x8.rank => (⟨0 + ((ix3 0 s r : S1x2048x2.Idx) (a.cast h.1.symm)).val,
      Nat.lt_of_lt_of_le (Nat.add_lt_add_left (Fin.isLt _) _) (h.2 a)⟩ : Fin (S1x2048x8.size a)))
      = (ix3 0 s p : S1x2048x8.Idx) := by
  funext a
  match a with
  | ⟨0, _⟩ => rfl
  | ⟨1, _⟩ => exact Fin.ext (Nat.zero_add _)
  | ⟨2, _⟩ => exact Fin.ext ((Nat.zero_add _).trans hp.symm)

/-- The best gates of a token's row. -/
theorem topK_fst (u : FVec Ideal S1x2048x8 .f32) (s : Fin 2048) (r : Fin 2) (p : Fin 8) (hp : p.val = r.val)
    (h : S1x2048x8.Slices (fun _ => 0) S1x2048x2) :
    (Host.topK S1x2048x2 2 (FloatOps.cmpfTotal (F := Ideal) (φ := .f32) .gt) u h).1 (ix3 0 s r)
      = u (ix3 0 s (sortedFrom (before fun e => u (ix3 0 s e)) p)) := by
  unfold Host.topK extractStridedSlice
  dsimp only
  rw [slice_ix s r p hp h, sort_fst]

/-- The experts of the best gates of a token's row. -/
theorem topK_snd (u : FVec Ideal S1x2048x8 .f32) (s : Fin 2048) (r : Fin 2) (p : Fin 8) (hp : p.val = r.val)
    (h : S1x2048x8.Slices (fun _ => 0) S1x2048x2) :
    (Host.topK S1x2048x2 2 (FloatOps.cmpfTotal (F := Ideal) (φ := .f32) .gt) u h).2 (ix3 0 s r)
      = BitVec.ofNat 32 (sortedFrom (before fun e => u (ix3 0 s e)) p).val := by
  unfold Host.topK extractStridedSlice
  dsimp only
  rw [slice_ix s r p hp h, sort_snd]
  rfl

/-! ## The gates -/

variable (x : FVec Ideal S1x2048x1024 .f32) (w1 w3 w5 : FVec Ideal S1024x1024 .f32) (b2 b4 b6 : FVec Ideal S1024 .f32)
variable (wg : FVec Ideal S1024x8 .f32) (bg : FVec Ideal S8 .f32)

/-- A token's gates, from the attention's output `v`. -/
abbrev gates (v : Fin 1024 → EReal) (wg : FVec Ideal S1024x8 .f32) (bg : FVec Ideal S8 .f32) : Fin 8 → EReal :=
  soft fun e => (∑ d, v d * wg (ix2 d e)) + bg (ix1 e)

/-- The reference's gates at an index. -/
theorem gates_apply (s : Fin 2048) (e : Fin 8) :
    val_main_v90 (F := Ideal) x w1 b2 w3 b4 w5 b6 wg bg (ix3 0 s e)
      = gates (fun d => val_main_v75 (F := Ideal) x w1 b2 w3 b4 w5 b6 (ix3 0 s d)) wg bg e := by
  have hl : ∀ e, val_main_v79 (F := Ideal) x w1 b2 w3 b4 w5 b6 wg bg (ix3 0 s e)
      = (∑ d, val_main_v75 (F := Ideal) x w1 b2 w3 b4 w5 b6 (ix3 0 s d) * wg (ix2 d e)) + bg (ix1 e) := by
    intro e
    unfold val_main_v79 val_main_v78 val_main_v77 val_main_v76
    generalize val_main_v75 (F := Ideal) x w1 b2 w3 b4 w5 b6 = u
    pointwise []
  unfold gates
  simp only [← hl]
  unfold val_main_v90 val_main_v89 val_main_v88 val_main_v87 val_main_v86 val_main_v85 val_main_v84 val_main_v83
    val_main_v82 val_main_v81 val_main_v80 soft expo top
  generalize val_main_v79 (F := Ideal) x w1 b2 w3 b4 w5 b6 wg bg = u
  pointwise [val_main_cst_8, val_main_cst_9, val_main_cst_10]
  rw [Lits.ofBits_neg_inf]
  simp only [bot_le, max_eq_right]

end Cert.ReferenceIdeal.Gates

end
-- ==== Proof.RefMoe.lean ====
module

public import proofs.«01_k».proof.Proof.RefGates
public import Idealize.ShloMosaic.Lib.StableHlo.Predicate

@[expose] public section

/-! # The reference's mixture of the two best experts, and its result -/

noncomputable section

namespace Cert.ReferenceIdeal.Moe

open Idealize.ShloMosaic Cert.ReferenceIdeal Cert.ReferenceIdeal.Read Cert.Layer

set_option maxRecDepth 16384

/-- The dimension numbers of the gather that takes a token's experts. -/
abbrev D : GatherDims S1x2048x8x1024 S2048x2x1 S1x2048x2x1024 := gather_S1x2048x8x1024_S2048x2x1_S1x2048x2x1024_03_2_1_0_2_2_1111024

/-- A position among the eight experts, as a word, is read back unchanged by the clamp. -/
theorem clamp_word (a : Fin 8) : min (BitVec.ofNat 32 a.val).toInt.toNat 7 + 0 + 0 = a.val := by
  revert a; decide

/-- The gather reads the expert that the position names. -/
theorem gather_apply (u : FVec Ideal S1x2048x8x1024 .f32) (idx : IVec S2048x2x1 32) (s : Fin 2048) (r : Fin 2)
    (c : Fin 1024) (a : Fin 8) (h : idx (ix3 s r 0) = BitVec.ofNat 32 a.val) :
    Host.gather D u idx (ix4 0 s r c) = u (ix4 0 s a c) := by
  have hl : 0 < D.startIndexMap.length := by decide
  have hi : D.siIdx (ix4 0 s r c) ⟨0, hl⟩ = ix3 s r 0 := by
    funext b
    match b with
    | ⟨0, _⟩ => rfl
    | ⟨1, _⟩ => rfl
    | ⟨2, _⟩ => rfl
  unfold Host.gather
  refine congrArg u ?_
  funext b
  match b with
  | ⟨0, _⟩ => rfl
  | ⟨1, _⟩ =>
    apply Fin.ext
    show 0 + s.val + 0 = s.val
    omega
  | ⟨2, _⟩ =>
    apply Fin.ext
    show min (idx (D.siIdx (ix4 0 s r c) ⟨0, hl⟩)).toInt.toNat 7 + 0 + 0 = a.val
    rw [hi, h]
    exact clamp_word a
  | ⟨3, _⟩ =>
    apply Fin.ext
    show 0 + 0 + c.val = c.val
    omega

variable (x : FVec Ideal S1x2048x1024 .f32) (w1 w3 w5 : FVec Ideal S1024x1024 .f32) (b2 b4 b6 : FVec Ideal S1024 .f32)
variable (wg : FVec Ideal S1024x8 .f32) (bg : FVec Ideal S8 .f32)
variable (we : FVec Ideal S8x1024x1024 .f32) (be : FVec Ideal S8x1024 .f32) (wf : FVec Ideal S1024x1024 .f32)
variable (bf : FVec Ideal S1024 .f32)

/-- A token's vector after the attention. -/
abbrev token (s : Fin 2048) (d : Fin 1024) : EReal := val_main_v75 (F := Ideal) x w1 b2 w3 b4 w5 b6 (ix3 0 s d)

/-- A token's row of gates. -/
abbrev row (s : Fin 2048) : Fin 8 → EReal := Gates.gates (token x w1 w3 w5 b2 b4 b6 s) wg bg

/-- Every expert's output at an index. -/
theorem experts_apply (s : Fin 2048) (e : Fin 8) (d : Fin 1024) :
    val_main_v94 (F := Ideal) x w1 b2 w3 b4 w5 b6 we be (ix4 0 s e d)
      = expert (token x w1 w3 w5 b2 b4 b6 s) (fun e k d => we (ix3 e k d)) e d + be (ix2 e d) := by
  unfold val_main_v94 val_main_v93 val_main_v92 val_main_v91 expert token
  generalize val_main_v75 (F := Ideal) x w1 b2 w3 b4 w5 b6 = u
  pointwise []

/-- The place of a token's best or second best expert. -/
abbrev place (a b : Fin 8) (r : Fin 2) : Fin 8 := if r = 0 then a else b

/-- The two best gates of a token. -/
theorem values_apply (s : Fin 2048) (r : Fin 2) (a b : Fin 8) (h : Best (row x w1 w3 w5 b2 b4 b6 wg bg s) a b) :
    val_main_values (F := Ideal) x w1 b2 w3 b4 w5 b6 wg bg (ix3 0 s r)
      = row x w1 w3 w5 b2 b4 b6 wg bg s (place a b r) := by
  have hg : (fun e => val_main_v90 (F := Ideal) x w1 b2 w3 b4 w5 b6 wg bg (ix3 0 s e)) = row x w1 w3 w5 b2 b4 b6 wg bg s :=
    funext fun e => Gates.gates_apply ..
  unfold val_main_values
  match r with
  | ⟨0, _⟩ => rw [Gates.topK_fst _ s _ 0 rfl, hg, Gates.sorted_first h, Gates.gates_apply]; rfl
  | ⟨1, _⟩ => rw [Gates.topK_fst _ s _ 1 rfl, hg, Gates.sorted_second h, Gates.gates_apply]; rfl

/-- The experts of the two best gates of a token. -/
theorem indices_apply (s : Fin 2048) (r : Fin 2) (a b : Fin 8) (h : Best (row x w1 w3 w5 b2 b4 b6 wg bg s) a b) :
    val_main_indices (F := Ideal) x w1 b2 w3 b4 w5 b6 wg bg (ix3 0 s r) = BitVec.ofNat 32 (place a b r).val := by
  have hg : (fun e => val_main_v90 (F := Ideal) x w1 b2 w3 b4 w5 b6 wg bg (ix3 0 s e)) = row x w1 w3 w5 b2 b4 b6 wg bg s :=
    funext fun e => Gates.gates_apply ..
  unfold val_main_indices
  match r with
  | ⟨0, _⟩ => rw [Gates.topK_snd _ s _ 0 rfl, hg, Gates.sorted_first h]; rfl
  | ⟨1, _⟩ => rw [Gates.topK_snd _ s _ 1 rfl, hg, Gates.sorted_second h]; rfl

/-- A position among the eight experts, as a word, is not negative: it is left as it is. -/
theorem wrap_word (a : Fin 8) :
    Scalar.select (IntOp.cmpi .slt (BitVec.ofNat 32 a.val) 0#32) (IntOp.addi (BitVec.ofNat 32 a.val) 8#32) (BitVec.ofNat 32 a.val)
      = BitVec.ofNat 32 a.val := by
  revert a; decide

/-- The positions handed to the gather. -/
theorem starts_apply (s : Fin 2048) (r : Fin 2) (a b : Fin 8) (h : Best (row x w1 w3 w5 b2 b4 b6 wg bg s) a b) :
    val_main_call0_v5 (F := Ideal) x w1 b2 w3 b4 w5 b6 wg bg (ix3 s r 0) = BitVec.ofNat 32 (place a b r).val := by
  have hi := indices_apply x w1 w3 w5 b2 b4 b6 wg bg s r a b h
  unfold val_main_call0_v5 val_main_call0_v4 val_main_call0_v3 val_main_call0_v1 val_main_v95
  revert hi
  generalize val_main_indices (F := Ideal) x w1 b2 w3 b4 w5 b6 wg bg = u
  intro hi
  pointwise [val_main_call0_v0, val_main_call0_v2, val_main_call0_c, val_main_call0_c_0]
  rw [hi]
  exact wrap_word _

/-- A position among the eight experts, as a word, is in range. -/
theorem range_word (a : Fin 8) :
    IntOp.andi (IntOp.andi (IntOp.cmpi .sge (BitVec.ofNat 32 a.val) 0#32) (IntOp.cmpi .sle (BitVec.ofNat 32 a.val) 7#32)) 1#1
      = 1#1 := by
  revert a; decide

/-- The positions are all among the experts: the mask is set. -/
theorem mask_apply (s : Fin 2048) (r : Fin 2) (a b : Fin 8) (h : Best (row x w1 w3 w5 b2 b4 b6 wg bg s) a b) :
    val_main_call0_v12 (F := Ideal) x w1 b2 w3 b4 w5 b6 wg bg (ix2 s r) = 1#1 := by
  have hi := starts_apply x w1 w3 w5 b2 b4 b6 wg bg s r a b h
  unfold val_main_call0_v12 val_main_call0_v11 val_main_call0_v10 val_main_call0_v7
  revert hi
  generalize val_main_call0_v5 (F := Ideal) x w1 b2 w3 b4 w5 b6 wg bg = u
  intro hi
  pointwise [val_main_call0_v6, val_main_call0_v8, val_main_call0_v9, val_main_call0_c_1, val_main_call0_c_2, val_main_call0_c_3]
  show Finset.fold IntOp.andi (1#1) (fun k : Fin 1 => _) {0} = 1#1
  rw [Finset.fold_singleton, hi]
  exact range_word _

/-- The outputs taken. -/
theorem taken_apply (s : Fin 2048) (r : Fin 2) (c : Fin 1024) (a b : Fin 8)
    (h : Best (row x w1 w3 w5 b2 b4 b6 wg bg s) a b) :
    val_main_v96 (F := Ideal) x w1 b2 w3 b4 w5 b6 wg bg we be (ix4 0 s r c)
      = expert (token x w1 w3 w5 b2 b4 b6 s) (fun e k d => we (ix3 e k d)) (place a b r) c + be (ix2 (place a b r) c) := by
  have hm : val_main_call0_v14 (F := Ideal) x w1 b2 w3 b4 w5 b6 wg bg (ix4 0 s r c) = 1#1 := by
    have hi := mask_apply x w1 w3 w5 b2 b4 b6 wg bg s r a b h
    unfold val_main_call0_v14
    revert hi
    generalize val_main_call0_v12 (F := Ideal) x w1 b2 w3 b4 w5 b6 wg bg = u
    intro hi
    pointwise []
    exact hi
  rw [val_main_v96_apply, hm]
  show val_main_call0_v13 (F := Ideal) x w1 b2 w3 b4 w5 b6 wg bg we be (ix4 0 s r c) = _
  unfold val_main_call0_v13
  rw [gather_apply _ _ s r c (place a b r) (starts_apply x w1 w3 w5 b2 b4 b6 wg bg s r a b h), experts_apply]

/-- The mixture at an index. -/
theorem mix_apply (s : Fin 2048) (c : Fin 1024) (a b : Fin 8) (h : Best (row x w1 w3 w5 b2 b4 b6 wg bg s) a b) :
    val_main_v100 (F := Ideal) x w1 b2 w3 b4 w5 b6 wg bg we be (ix3 0 s c)
      = mixR (row x w1 w3 w5 b2 b4 b6 wg bg s) a b (token x w1 w3 w5 b2 b4 b6 s) (fun e k d => we (ix3 e k d))
          (fun e d => be (ix2 e d)) c := by
  have h0 := values_apply x w1 w3 w5 b2 b4 b6 wg bg s 0 a b h
  have h1 := values_apply x w1 w3 w5 b2 b4 b6 wg bg s 1 a b h
  have t0 := taken_apply x w1 w3 w5 b2 b4 b6 wg bg we be s 0 c a b h
  have t1 := taken_apply x w1 w3 w5 b2 b4 b6 wg bg we be s 1 c a b h
  unfold mixR
  unfold val_main_v100 val_main_v99 val_main_v98 val_main_v97
  revert h0 h1 t0 t1
  generalize val_main_v96 (F := Ideal) x w1 b2 w3 b4 w5 b6 wg bg we be = u
  generalize val_main_values (F := Ideal) x w1 b2 w3 b4 w5 b6 wg bg = v
  intro h0 h1 t0 t1
  pointwise [val_main_cst_11]
  rw [Fin.sum_univ_two, h0, h1, t0, t1]
  rfl

/-- The reference's result at an index. -/
theorem result_apply (s : Fin 2048) (c : Fin 1024) (a b : Fin 8) (h : Best (row x w1 w3 w5 b2 b4 b6 wg bg s) a b) :
    val_main_v105 (F := Ideal) x w1 b2 w3 b4 w5 b6 wg bg we be wf bf (ix3 0 s c)
      = final (mixR (row x w1 w3 w5 b2 b4 b6 wg bg s) a b (token x w1 w3 w5 b2 b4 b6 s) (fun e k d => we (ix3 e k d))
          (fun e d => be (ix2 e d))) (fun d c => wf (ix2 d c)) (fun c => bf (ix1 c)) (fun c => x (ix3 0 s c)) c := by
  have hm : (mixR (row x w1 w3 w5 b2 b4 b6 wg bg s) a b (token x w1 w3 w5 b2 b4 b6 s) (fun e k d => we (ix3 e k d))
      (fun e d => be (ix2 e d))) = fun d => val_main_v100 (F := Ideal) x w1 b2 w3 b4 w5 b6 wg bg we be (ix3 0 s d) :=
    funext fun d => (mix_apply x w1 w3 w5 b2 b4 b6 wg bg we be s d a b h).symm
  rw [hm]
  unfold final
  unfold val_main_v105 val_main_v104 val_main_v103 val_main_v102 val_main_v101
  generalize val_main_v100 (F := Ideal) x w1 b2 w3 b4 w5 b6 wg bg we be = u
  pointwise []

end Cert.ReferenceIdeal.Moe

end
-- ==== Proof.Alg.lean ====
module

public import proofs.«01_k».proof.Proof.Spec
public import proofs.«01_k».proof.Proof.Lits

@[expose] public section

/-! # The two spellings of the layer agree

    The kernel divides a head's weighted sum of values by the sum of the weights; the reference divides the weights
    first. The kernel weighs all eight experts, six of them by zero; the reference sums the two best. -/

noncomputable section

namespace Cert.Layer

open Idealize.ShloMosaic

/-! ## Real values -/

/-- An extended real that is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.neg {x : EReal} : IsReal x → IsReal (-x)
  | ⟨a, ha⟩ => ⟨-a, by rw [ha, EReal.coe_neg]⟩

theorem IsReal.sub {x y : EReal} : IsReal x → IsReal y → IsReal (x - y)
  | ⟨a, ha⟩, ⟨b, hb⟩ => ⟨a - b, by rw [ha, hb, EReal.coe_sub]⟩

/-- A finite sum of real numbers is real. -/
theorem IsReal.sum {ι : Type} (S : Finset ι) (u : ι → EReal) (h : ∀ i, IsReal (u i)) : IsReal (∑ i ∈ S, u i) := by
  classical
  induction S using Finset.induction_on with
  | empty => exact ⟨0, by simp⟩
  | insert a S ha ih => rw [Finset.sum_insert ha]; exact (h a).add ih

/-- A finite sum of real numbers, as an extended real. -/
theorem coe_sum {ι : Type} (S : Finset ι) (r : ι → ℝ) : ((∑ i ∈ S, r i : ℝ) : EReal) = ∑ i ∈ S, (r i : EReal) := by
  classical
  induction S using Finset.induction_on with
  | empty => simp
  | insert a S ha ih => rw [Finset.sum_insert ha, Finset.sum_insert ha, EReal.coe_add, ih]

/-! ## The greatest entry of a row -/

/-- Every entry is at most the greatest. -/
theorem le_top' {n : ℕ} (u : Fin n → EReal) (j : Fin n) : u j ≤ top u :=
  (Finset.le_fold_max _).2 (.inr ⟨j, Finset.mem_univ _, le_rfl⟩)

/-- The greatest entry of a row that has one is one of its entries. -/
theorem top_mem {n : ℕ} (u : Fin n → EReal) (j : Fin n) : ∃ k, top u = u k := by
  obtain ⟨k, -, hk⟩ := Finset.exists_max_image Finset.univ u ⟨j, Finset.mem_univ j⟩
  exact ⟨k, le_antisymm ((Finset.fold_max_le _).2 ⟨bot_le, fun i hi => hk i hi⟩) (le_top' u k)⟩

/-! ## The softmax of a row of real numbers -/

/-- The exponential of a real entry less a real greatest is a positive real number. -/
theorem expo_real {n : ℕ} (u : Fin n → EReal) (h : ∀ j, IsReal (u j)) (j : Fin n) :
    ∃ r : ℝ, 0 < r ∧ expo u j = (r : EReal) := by
  obtain ⟨k, hk⟩ := top_mem u j
  obtain ⟨a, ha⟩ := (h j).sub (h k)
  refine ⟨Real.exp a, Real.exp_pos a, ?_⟩
  unfold expo
  rw [hk, ha]
  rfl

/-- The exponentials of a row of real numbers add up to a positive real number. -/
theorem sum_expo_real {n : ℕ} (u : Fin n → EReal) (h : ∀ j, IsReal (u j)) (j : Fin n) :
    ∃ r : ℝ, 0 < r ∧ ∑ k, expo u k = (r : EReal) := by
  choose r hr he using fun k => expo_real u h k
  refine ⟨∑ k, r k, Finset.sum_pos (fun k _ => hr k) ⟨j, Finset.mem_univ j⟩, ?_⟩
  rw [coe_sum]
  exact Finset.sum_congr rfl fun k _ => he k

/-- A nonnegative real factor moves into a finite sum of extended reals. -/
theorem sum_mul_real {ι : Type} (S : Finset ι) (u : ι → EReal) (r : ℝ) (hr : 0 ≤ r) :
    (∑ i ∈ S, u i) * (r : EReal) = ∑ i ∈ S, u i * (r : EReal) := by
  classical
  induction S using Finset.induction_on with
  | empty => simp
  | insert a S ha ih =>
    rw [Finset.sum_insert ha, Finset.sum_insert ha,
      EReal.right_distrib_of_nonneg_of_ne_top (EReal.coe_nonneg.2 hr) (EReal.coe_ne_top r), ih]

/-- A quotient by a positive real number is the product with its inverse. -/
theorem div_real (x : EReal) {r : ℝ} (hr : 0 < r) : Ideal.div x (r : EReal) = x * ((r⁻¹ : ℝ) : EReal) := by
  unfold Ideal.div
  rw [if_neg (EReal.coe_ne_zero.2 hr.ne'), EReal.coe_inv]

/-- Dividing after the sum over the keys is dividing before it, when every score is a real number. -/
theorem headK_eq_headR (q k v : Fin 2048 → Fin 64 → EReal) (i : Fin 2048) (f : Fin 64)
    (h : ∀ j, IsReal (score q k i j)) : headK q k v i f = headR q k v i f := by
  obtain ⟨r, hr, he⟩ := sum_expo_real (score q k i) h i
  unfold headK headR soft
  rw [he]
  simp only [div_real _ hr]
  rw [sum_mul_real _ _ _ (inv_pos.2 hr).le]
  exact Finset.sum_congr rfl fun j _ => mul_right_comm _ _ _

/-! ## The mixture -/

/-- The weighted sum over the eight experts, all but two weights being zero, is the sum over those two. -/
theorem mixK_eq_mixR (g : Fin 8 → EReal) (a b : Fin 8) (hab : b ≠ a) (u : Fin 1024 → EReal)
    (We : Fin 8 → Fin 1024 → Fin 1024 → EReal) (be : Fin 8 → Fin 1024 → EReal) (d : Fin 1024)
    (ha : 0 ≤ g a) (ha' : g a ≠ ⊤) (hb : 0 ≤ g b) (hb' : g b ≠ ⊤) :
    mixK (pick g a b) u We be d = mixR g a b u We be d := by
  have hs : mixK (pick g a b) u We be d = (∑ e, pick g a b e * be e d) + ∑ e, pick g a b e * expert u We e d := by
    unfold mixK
    rw [Fin.sum_univ_eight (fun e => pick g a b e * expert u We e d)]
    simp only [add_assoc]
  have two : ∀ w : Fin 8 → EReal, ∑ e, pick g a b e * w e = g a * w a + g b * w b := fun w => by
    rw [← Finset.add_sum_erase _ _ (Finset.mem_univ a), ← Finset.add_sum_erase _ _
      (Finset.mem_erase.2 ⟨hab, Finset.mem_univ b⟩), Finset.sum_eq_zero fun e he => ?_]
    · unfold pick
      rw [if_pos rfl, if_neg hab, if_pos rfl, add_zero]
    · obtain ⟨h1, h2⟩ := Finset.mem_erase.1 he
      unfold pick
      rw [if_neg (Finset.mem_erase.1 h2).1, if_neg h1, zero_mul]
  rw [hs, two, two]
  unfold mixR
  rw [EReal.left_distrib_of_nonneg_of_ne_top ha ha', EReal.left_distrib_of_nonneg_of_ne_top hb hb',
    add_comm (g a * expert u We a d), add_comm (g b * expert u We b d)]
  rw [add_add_add_comm (g a * be a d) (g b * be b d) (g a * expert u We a d) (g b * expert u We b d),
    add_comm (g a * be a d), add_comm (g b * be b d)]

/-! ## The gates -/

/-- A row of gates of which one is below another is a row of nonnegative numbers, none of them infinite. -/
theorem soft_bounds (u : Fin 8 → EReal) (a e : Fin 8) (h : soft u e < soft u a) (k : Fin 8) :
    0 ≤ soft u k ∧ soft u k ≠ ⊤ := by
  have flat : (∀ j, expo u j = 0) → False := fun h0 => by
    unfold soft at h
    rw [h0 e, h0 a] at h
    exact lt_irrefl _ h
  obtain ⟨i, hi⟩ := top_mem u a
  rcases ht : top u with _ | _ | t
  · refine (flat fun j => ?_).elim
    have hj : u j = ⊥ := le_bot_iff.1 ((le_top' u j).trans (le_of_eq ht))
    unfold expo
    rw [ht, hj]
    rfl
  · refine (flat fun j => ?_).elim
    unfold expo
    rw [ht]
    rcases u j with _ | _ | x <;> rfl
  · have ex : ∀ j, ∃ r : ℝ, 0 ≤ r ∧ expo u j = (r : EReal) := fun j => by
      unfold expo
      rw [ht]
      have hle : u j ≤ (t : EReal) := (le_top' u j).trans (le_of_eq ht)
      rcases hj : u j with _ | _ | x
      · exact ⟨0, le_rfl, rfl⟩
      · rw [hj] at hle
        exact absurd (top_le_iff.1 hle) (EReal.coe_ne_top t)
      · exact ⟨Real.exp (x - t), (Real.exp_pos _).le, rfl⟩
    choose r hr he using ex
    have h1 : r i = 1 := by
      have hone : expo u i = ((1 : ℝ) : EReal) := by
        unfold expo
        rw [← hi, ht]
        show ((Real.exp (t - t) : ℝ) : EReal) = _
        rw [sub_self, Real.exp_zero]
      rw [he] at hone
      exact EReal.coe_injective hone
    have hsum : ∑ j, expo u j = ((∑ j, r j : ℝ) : EReal) := by
      rw [coe_sum]
      exact Finset.sum_congr rfl fun j _ => he j
    have hpos : 0 < ∑ j, r j :=
      lt_of_lt_of_le (by rw [h1]; exact one_pos) (Finset.single_le_sum (fun j _ => hr j) (Finset.mem_univ i))
    have hs : soft u k = ((r k * (∑ j, r j)⁻¹ : ℝ) : EReal) := by
      unfold soft
      rw [hsum, div_real _ hpos, he, EReal.coe_mul]
    rw [hs]
    exact ⟨EReal.coe_nonneg.2 (mul_nonneg (hr k) (inv_pos.2 hpos).le), EReal.coe_ne_top _⟩

/-! ## The rotary tables are real -/

/-- An integer converted to a float is a real number. -/
theorem sitofp_real (w : BitVec 32) : IsReal (FloatOps.sitofp (F := Ideal) .f32 w) := ⟨(w.toInt : ℝ), rfl⟩

/-- An inverse frequency is a real number. -/
theorem invFreq_real (g : Fin 32) : IsReal (invFreq g) := by
  obtain ⟨x, hx⟩ : IsReal (Ideal.ofBits .f32 0x00000000#32
      + Ideal.ofBits .f32 0x40000000#32 * FloatOps.sitofp (F := Ideal) .f32 (BitVec.ofNat 32 g)) := by
    rw [Lits.ofBits_zero, Lits.ofBits_two]
    exact IsReal.add ⟨0, rfl⟩ (IsReal.mul ⟨2, rfl⟩ (sitofp_real _))
  unfold invFreq
  rw [hx, Lits.ofBits_sixty_four, Lits.ofBits_base, Lits.ofBits_one, div_real _ (by norm_num : (0 : ℝ) < 64), ← EReal.coe_mul]
  show IsReal (Ideal.div _ ((Real.rpow 10000 (x * 64⁻¹) : ℝ) : EReal))
  rw [div_real _ (show 0 < Real.rpow 10000 (x * 64⁻¹) from Real.rpow_pos_of_pos (by norm_num) _), ← EReal.coe_mul]
  exact ⟨_, rfl⟩

/-- An angle is a real number. -/
theorem angle_real (s : Fin 2048) (f : Fin 64) : IsReal (angle s f) := by
  unfold angle
  split
  · exact (sitofp_real _).mul (invFreq_real _)
  · exact (sitofp_real _).mul (invFreq_real _)

/-- The table of cosines holds real numbers. -/
theorem cosT_real (s : Fin 2048) (f : Fin 64) : IsReal (cosT s f) := by
  obtain ⟨r, hr⟩ := angle_real s f
  unfold cosT
  rw [hr]
  exact ⟨Real.cos r, rfl⟩

/-- The table of sines holds real numbers. -/
theorem sinT_real (s : Fin 2048) (f : Fin 64) : IsReal (sinT s f) := by
  obtain ⟨r, hr⟩ := angle_real s f
  unfold sinT
  rw [hr]
  exact ⟨Real.sin r, rfl⟩

/-- A projection of real tokens by real weights is real, and so it is after the rotary embedding. -/
theorem projRot_real (X : Fin 2048 → Fin 1024 → EReal) (W : Fin 1024 → Fin 1024 → EReal) (b : Fin 1024 → EReal)
    (hX : ∀ s d, IsReal (X s d)) (hW : ∀ d c, IsReal (W d c)) (hb : ∀ c, IsReal (b c)) (h : Fin 16) (s : Fin 2048)
    (f : Fin 64) : IsReal (projRot X W b h s f) := by
  have hp : ∀ f, IsReal (proj X W b h s f) := fun f =>
    (IsReal.sum _ _ fun d => (hX s d).mul (hW d _)).add (hb _)
  unfold projRot rot half
  refine ((hp f).mul (cosT_real s f)).add (IsReal.mul ?_ (sinT_real s f))
  split
  · exact (hp _).neg
  · exact hp _

/-- The scores of real queries and keys are real. -/
theorem score_real (q k : Fin 2048 → Fin 64 → EReal) (hq : ∀ i f, IsReal (q i f)) (hk : ∀ i f, IsReal (k i f))
    (i j : Fin 2048) : IsReal (score q k i j) := by
  refine IsReal.mul (IsReal.sum _ _ fun f => (hq i f).mul (hk j f)) ⟨(8 : ℝ)⁻¹, ?_⟩
  rw [EReal.coe_inv]
  rfl

end Cert.Layer

end
-- ==== Proof.PreFacts.lean ====
module

public import proofs.«01_k».proof.Proof.RefGates
public import proofs.«01_k».proof.Proof.Alg
public import proofs.«01_k».proof.Proof.Gen.Pre_no_tie
public import Idealize.ShloMosaic.Lib.ReduceAll

@[expose] public section

/-! # What the precondition says -/

set_option maxRecDepth 16384

noncomputable section

namespace Cert.Pre_no_tie.Use

open Idealize.ShloMosaic Cert.Pre_no_tie Cert.Pre_no_tie.Gen Cert.Layer

section Printed

variable {F : FTy → Type} [FloatOps F]

/-- Every element of an array is smaller in size than infinity. -/
def small {s : Shape} {axes : List (Fin s.rank)} (hb : S_.BroadcastsInDim s (![] : Fin 0 → Fin s.rank))
    (hr : s.ReducesTo axes S_) (u : FVec F s .f32) : IVec S_ 1 :=
  Host.reduce IntOp.andi (cmpf .olt (Host.absf u) (broadcastInDim s ![] hb (constant S_ .f32 0x7F800000#32)))
    (constantI S_ 1 1#1) hr Facts.h_S_

/-- The five arrays that the scores come from are finite. -/
def finite (x : FVec F S1x2048x1024 .f32) (w1 : FVec F S1024x1024 .f32) (b2 : FVec F S1024 .f32)
    (w3 : FVec F S1024x1024 .f32) (b4 : FVec F S1024 .f32) : IVec S_ 1 :=
  andi (andi (andi (andi (small Facts.bcast_S_S1x2048x1024 Facts.reducesTo_S1x2048x1024_S_d0_1_2 x)
    (small Facts.bcast_S_S1024x1024 Facts.reducesTo_S1024x1024_S_d0_1 w1))
    (small Facts.bcast_S_S1024 Facts.reducesTo_S1024_S_d0 b2))
    (small Facts.bcast_S_S1024x1024 Facts.reducesTo_S1024x1024_S_d0_1 w3))
    (small Facts.bcast_S_S1024 Facts.reducesTo_S1024_S_d0 b4)

/-- Where a gate is above another of its token's row: the compared gate's place comes last. -/
def above (g : FVec F S1x2048x8 .f32) : IVec S1x2048x8x8 32 :=
  extui 32 (cmpf .ogt
    (broadcastInDim S1x2048x8x8 ![0, 1, 2, 3] Facts.bcast_S1x2048x1x8_S1x2048x8x8_0_1_2_3
      (broadcastInDim S1x2048x1x8 ![0, 1, 3] Facts.bcast_S1x2048x8_S1x2048x1x8_0_1_3 g))
    (broadcastInDim S1x2048x8x8 ![0, 1, 2, 3] Facts.bcast_S1x2048x8x1_S1x2048x8x8_0_1_2_3
      (broadcastInDim S1x2048x8x1 ![0, 1, 2] Facts.bcast_S1x2048x8_S1x2048x8x1_0_1_2 g))) Facts.natLt_1_32

/-- The precondition is its last part, at the reference's gates. -/
theorem fn_eq (x : FVec F S1x2048x1024 .f32) (w1 : FVec F S1024x1024 .f32) (b2 : FVec F S1024 .f32)
    (w3 : FVec F S1024x1024 .f32) (b4 : FVec F S1024 .f32) (w5 : FVec F S1024x1024 .f32) (b6 : FVec F S1024 .f32)
    (wg : FVec F S1024x8 .f32) (bg : FVec F S8 .f32) (we : FVec F S8x1024x1024 .f32) (be : FVec F S8x1024 .f32)
    (wf : FVec F S1024x1024 .f32) (bf : FVec F S1024 .f32) :
    fn x w1 b2 w3 b4 w5 b6 wg bg we be wf bf
      = fn_part6 (finite x w1 b2 w3 b4) (ReferenceIdeal.Read.val_main_v90 x w1 b2 w3 b4 w5 b6 wg bg)
          (above (ReferenceIdeal.Read.val_main_v90 x w1 b2 w3 b4 w5 b6 wg bg)) (constantI S_ 32 0#32) := rfl

end Printed

/-- Words of one bit that are both one. -/
theorem and_one : ∀ a b : BitVec 1, IntOp.andi a b = 1#1 → a = 1#1 ∧ b = 1#1 := by decide

/-- An implication between two bits, read back. -/
theorem imp_one : ∀ a b c : BitVec 1, IntOp.ori (~~~IntOp.andi a b) c = 1#1 → a = 1#1 → b = 1#1 → c = 1#1 := by decide

/-- A count of two or more among eight has two places. -/
theorem count_two : ∀ p : Fin 8 → Bool,
    IntOp.cmpi CmpIPredicate.sge (Finset.fold IntOp.addi (0#32) (fun x => BitVec.setWidth 32 (BitVec.ofBool (p x))) Finset.univ) 2#32
      = 1#1 → ∃ j j', j ≠ j' ∧ p j = true ∧ p j' = true := by
  decide +kernel

/-- Two places of a row differ as words. -/
theorem ne_word : ∀ e e' : Fin 8, e ≠ e' → IntOp.cmpi CmpIPredicate.ne (BitVec.ofNat 32 e.val) (BitVec.ofNat 32 e'.val) = 1#1 := by
  decide

/-- What the last part says where it is one everywhere: its first argument is one, and two equal gates of a token are
    below two of its gates. -/
theorem part6_use (v : IVec S_ 1) (g : FVec Ideal S1x2048x8 .f32)
    (h : fn_part6 v g (above g) (constantI S_ 32 0#32) = fun _ => 1#1) :
    v ix0 = 1#1 ∧ ∀ (s : Fin 2048) (e e' : Fin 8), e ≠ e' → g (ix3 0 s e) = g (ix3 0 s e') →
      ∃ j j', j ≠ j' ∧ g (ix3 0 s e) < g (ix3 0 s j) ∧ g (ix3 0 s e) < g (ix3 0 s j') := by
  have key : ∀ (s : Fin 2048) (e e' : Fin 8), IntOp.andi (v ix0)
      (IntOp.ori
        (~~~IntOp.andi (BitVec.ofBool (decide (g (ix3 0 s e) = g (ix3 0 s e'))))
            (IntOp.cmpi CmpIPredicate.ne (BitVec.ofNat 32 e.val) (BitVec.ofNat 32 e'.val)))
        (IntOp.cmpi CmpIPredicate.sge
          (Finset.fold IntOp.addi (0#32)
            (fun x => BitVec.setWidth 32 (BitVec.ofBool (decide (g (ix3 0 s e) < g (ix3 0 s x))))) Finset.univ)
          2#32)) = 1#1 := fun s e e' => by
    have hs := congrFun h (ix4 0 s e e')
    rw [← hs]
    symm
    pointwise [fn_part6, above]
  refine ⟨(and_one _ _ (key 0 0 0)).1, fun s e e' hne heq => ?_⟩
  have hc := imp_one _ _ _ (and_one _ _ (key s e e')).2 (by rw [decide_eq_true heq]; rfl) (ne_word e e' hne)
  obtain ⟨j, j', hjj, hj, hj'⟩ := count_two (fun x => decide (g (ix3 0 s e) < g (ix3 0 s x))) hc
  exact ⟨j, j', hjj, of_decide_eq_true hj, of_decide_eq_true hj'⟩

/-- An array whose elements are all smaller in size than infinity holds real numbers. -/
theorem small_real {s : Shape} {axes : List (Fin s.rank)} (hb : S_.BroadcastsInDim s (![] : Fin 0 → Fin s.rank))
    (hr : s.ReducesTo axes S_) (u : FVec Ideal s .f32) (h : small hb hr u ix0 = 1#1) (i : s.Idx) : IsReal (u i) := by
  have hi := Host.reduce_andi_all _ _ hr Facts.h_S_ ix0 h i
  have hlt : max (u i) (-(u i)) < Ideal.ofBits .f32 0x7F800000#32 := by
    have hd : BitVec.ofBool (decide (max (u i) (-(u i)) < Ideal.ofBits .f32 0x7F800000#32)) = 1#1 := hi
    by_contra hn
    rw [decide_eq_false hn] at hd
    exact absurd hd (by decide)
  rw [Lits.ofBits_inf] at hlt
  generalize u i = y at hlt
  rcases y with _ | _ | r
  · exact absurd hlt (not_lt.2 (le_max_of_le_right (le_of_eq EReal.neg_bot.symm)))
  · exact absurd hlt (not_lt.2 (le_max_of_le_left le_rfl))
  · exact ⟨r, rfl⟩

/-- A row whose ties all lie below two better gates has two best gates. -/
theorem best_of_no_tie (g : Fin 8 → EReal)
    (h : ∀ e e', e ≠ e' → g e = g e' → ∃ j j', j ≠ j' ∧ g e < g j ∧ g e < g j') : ∃ a b, Best g a b := by
  obtain ⟨a, -, ha⟩ := Finset.exists_max_image Finset.univ g ⟨0, Finset.mem_univ _⟩
  obtain ⟨b, hb, hb'⟩ := Finset.exists_max_image (Finset.univ.erase a) g (by
    rw [← Finset.card_pos, Finset.card_erase_of_mem (Finset.mem_univ _)]
    decide)
  have hba : b ≠ a := (Finset.mem_erase.1 hb).1
  refine ⟨a, b, ⟨fun e he => lt_of_le_of_ne (ha e (Finset.mem_univ _)) fun heq => ?_, hba, fun e he he' =>
    lt_of_le_of_ne (hb' e (Finset.mem_erase.2 ⟨he, Finset.mem_univ _⟩)) fun heq => ?_⟩⟩
  · obtain ⟨j, -, -, hj, -⟩ := h e a he heq
    exact absurd (ha j (Finset.mem_univ _)) (not_le.2 (heq ▸ hj))
  · obtain ⟨j, j', hjj, hj, hj'⟩ := h e b he' heq
    rw [heq] at hj hj'
    by_cases hja : j = a
    · have hj'a : j' ≠ a := fun e => hjj (hja.trans e.symm)
      exact absurd (hb' j' (Finset.mem_erase.2 ⟨hj'a, Finset.mem_univ _⟩)) (not_le.2 hj')
    · exact absurd (hb' j (Finset.mem_erase.2 ⟨hja, Finset.mem_univ _⟩)) (not_le.2 hj)

variable (x : FVec Ideal S1x2048x1024 .f32) (w1 w3 w5 : FVec Ideal S1024x1024 .f32) (b2 b4 b6 : FVec Ideal S1024 .f32)
variable (wg : FVec Ideal S1024x8 .f32) (bg : FVec Ideal S8 .f32) (we : FVec Ideal S8x1024x1024 .f32)
variable (be : FVec Ideal S8x1024 .f32) (wf : FVec Ideal S1024x1024 .f32) (bf : FVec Ideal S1024 .f32)

/-- Under the precondition the inputs and the weights and biases of the queries and the keys are real numbers. -/
theorem real_of_pre (h : fn x w1 b2 w3 b4 w5 b6 wg bg we be wf bf = fun _ => 1#1) :
    (∀ i, IsReal (x i)) ∧ (∀ i, IsReal (w1 i)) ∧ (∀ i, IsReal (b2 i)) ∧ (∀ i, IsReal (w3 i)) ∧ ∀ i, IsReal (b4 i) := by
  rw [fn_eq] at h
  have hf := (part6_use _ _ h).1
  obtain ⟨hf, h4⟩ := and_one _ _ hf
  obtain ⟨hf, h3⟩ := and_one _ _ hf
  obtain ⟨hf, h2⟩ := and_one _ _ hf
  obtain ⟨h0, h1⟩ := and_one _ _ hf
  exact ⟨small_real _ _ _ h0, small_real _ _ _ h1, small_real _ _ _ h2, small_real _ _ _ h3, small_real _ _ _ h4⟩

/-- Under the precondition every token's gates have two best. -/
theorem best_of_pre (h : fn x w1 b2 w3 b4 w5 b6 wg bg we be wf bf = fun _ => 1#1) (s : Fin 2048) :
    ∃ a b, Best (ReferenceIdeal.Gates.gates
      (fun d => ReferenceIdeal.Read.val_main_v75 (F := Ideal) x w1 b2 w3 b4 w5 b6 (ix3 0 s d)) wg bg) a b := by
  rw [fn_eq] at h
  refine best_of_no_tie _ fun e e' hne heq => ?_
  rw [← ReferenceIdeal.Gates.gates_apply, ← ReferenceIdeal.Gates.gates_apply] at heq
  obtain ⟨j, j', hjj, hj, hj'⟩ := (part6_use _ _ h).2 s e e' hne heq
  rw [ReferenceIdeal.Gates.gates_apply, ReferenceIdeal.Gates.gates_apply] at hj hj'
  exact ⟨j, j', hjj, hj, hj'⟩

end Cert.Pre_no_tie.Use

end
-- ==== Proof.Agree.lean ====
module

public import proofs.«01_k».proof.Proof.KHost
public import proofs.«01_k».proof.Proof.RefMoe
public import proofs.«01_k».proof.Proof.PreFacts

@[expose] public section

/-! # The kernel's result is the reference's -/

set_option maxRecDepth 16384

noncomputable section

namespace Cert.Agree

open Idealize.ShloMosaic Idealize.ShloMosaic.TcCoe Cert.KernelIdeal Cert.KernelIdeal.Gen Cert.Layer

section Attention

variable (x : FVec Ideal S1x2048x1024 .f32) (w1 w3 w5 : FVec Ideal S1024x1024 .f32) (b2 b4 b6 : FVec Ideal S1024 .f32)

/-- A column is the column of its head and its feature. -/
theorem col_split (d : Fin 1024) : col (Blocks.headOf d) (Blocks.featOf d) = d :=
  Fin.ext (by
    show d.val / 64 * 64 + d.val % 64 = d.val
    omega)

/-- On real inputs and real weights of the queries and keys, the first launch's attention is the reference's. -/
theorem attn_eq (hx : ∀ i, IsReal (x i)) (h1 : ∀ i, IsReal (w1 i)) (h2 : ∀ i, IsReal (b2 i)) (h3 : ∀ i, IsReal (w3 i))
    (h4 : ∀ i, IsReal (b4 i)) (s : Fin 2048) (d : Fin 1024) :
    Blocks.attn (shapeCast S2048x1024 x shapeCasts_S1x2048x1024_S2048x1024) w1 w3 w5 (shapeCast S1x1024 b2 shapeCasts_S1024_S1x1024)
        (shapeCast S1x1024 b4 shapeCasts_S1024_S1x1024) (shapeCast S1x1024 b6 shapeCasts_S1024_S1x1024) cosT sinT (ix2 s d)
      = ReferenceIdeal.Read.val_main_v75 (F := Ideal) x w1 b2 w3 b4 w5 b6 (ix3 0 s d) := by
  rw [Host.attn_apply, headK_eq_headR _ _ _ _ _ fun j => score_real _ _
    (projRot_real _ _ _ (fun _ _ => hx _) (fun _ _ => h1 _) (fun _ => h2 _) _)
    (projRot_real _ _ _ (fun _ _ => hx _) (fun _ _ => h3 _) (fun _ => h4 _) _) s j]
  have h := ReferenceIdeal.Attn.attn_apply x w1 w3 w5 b2 b4 b6 (Blocks.headOf d) s (Blocks.featOf d)
  rw [col_split] at h
  exact h.symm

end Attention

variable (m : (ℓ : Loc nD τ sig) → Buf (Elt Ideal) ℓ) (ρ : Dev nD → PrngReg) (c : Dev nD)

/-- The reference's result of the kernel's arguments. -/
abbrev want : FVec Ideal S1x2048x1024 .f32 :=
  ReferenceIdeal.Read.val_main_v105 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12))

/-- The precondition, of the kernel's arguments. -/
abbrev Pre : Prop :=
  Pre_no_tie.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) = fun _ => 1#1

/-- The reference's attention of the kernel's arguments, for one token. -/
abbrev token (s : Fin 2048) : Fin 1024 → EReal :=
  ReferenceIdeal.Moe.token (m ((c.tc : Thread nD τ).loc main_arg0)) (m ((c.tc : Thread nD τ).loc main_arg1))
    (m ((c.tc : Thread nD τ).loc main_arg3)) (m ((c.tc : Thread nD τ).loc main_arg5)) (m ((c.tc : Thread nD τ).loc main_arg2))
    (m ((c.tc : Thread nD τ).loc main_arg4)) (m ((c.tc : Thread nD τ).loc main_arg6)) s

/-- The attention that the second launch reads is the reference's. -/
theorem ao_eq (h : Pre m c) (s : Fin 2048) (d : Fin 1024) : Host.ao m ρ c (ix2 s d) = token m c s d := by
  obtain ⟨hx, h1, h2, h3, h4⟩ := Pre_no_tie.Use.real_of_pre _ _ _ _ _ _ _ _ _ _ _ _ _ h
  unfold Host.ao
  rw [Host.attn_read]
  exact attn_eq _ _ _ _ _ _ _ hx h1 h2 h3 h4 s d

/-- The gates of the second launch are the reference's. -/
theorem gates_eq (h : Pre m c) (s : Fin 2048) :
    Host.gates m ρ c s = ReferenceIdeal.Gates.gates (token m c s) (m ((c.tc : Thread nD τ).loc main_arg7))
      (m ((c.tc : Thread nD τ).loc main_arg8)) := by
  rw [Host.gates_read]
  unfold ReferenceIdeal.Gates.gates
  simp only [ao_eq m ρ c h]

/-- Every element of the kernel's result is the reference's. -/
theorem result_eq (h : Pre m c) : W5 m ρ c (Proc.devRef .tc main_v38) = want m c := by
  have hbest := fun s => Pre_no_tie.Use.best_of_pre _ _ _ _ _ _ _ _ _ _ _ _ _ h s
  choose a b hab using hbest
  have hg : ∀ s, Best (Host.gates m ρ c s) (a s) (b s) := fun s => by
    rw [gates_eq m ρ c h]
    exact hab s
  refine funext fun y => ?_
  obtain ⟨s, f, rfl⟩ : ∃ (s : Fin 2048) (f : Fin 1024), y = ix3 0 s f := ⟨y 1, y 2, by
    funext i
    match i with
    | ⟨0, _⟩ => exact Subsingleton.elim (α := Fin 1) _ _
    | ⟨1, _⟩ => rfl
    | ⟨2, _⟩ => rfl⟩
  rw [Host.result_read m ρ c a b hg s f]
  refine Eq.trans ?_ (ReferenceIdeal.Moe.result_apply _ _ _ _ _ _ _ _ _ _ _ _ _ s f (a s) (b s) (hab s)).symm
  have hlt : Host.gates m ρ c s (b s) < Host.gates m ρ c s (a s) := (hg s).first _ (hg s).ne
  have hbd : ∀ k, 0 ≤ Host.gates m ρ c s k ∧ Host.gates m ρ c s k ≠ ⊤ := fun k => by
    rw [Host.gates_read] at hlt ⊢
    exact soft_bounds _ _ _ hlt k
  have hmix : ∀ u We be, mixK (pick (Host.gates m ρ c s) (a s) (b s)) u We be = mixR (Host.gates m ρ c s) (a s) (b s) u We be :=
    fun u We be => funext fun d => mixK_eq_mixR _ _ _ (hg s).ne _ _ _ d (hbd _).1 (hbd _).2 (hbd _).1 (hbd _).2
  rw [hmix, gates_eq m ρ c h, show (fun k => Host.ao m ρ c (ix2 s k)) = token m c s from funext fun k => ao_eq m ρ c h s k]

end Cert.Agree

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_no_tie
public import proofs.«01_k».proof.Proof.KRun
public import proofs.«01_k».proof.Proof.Agree

@[expose] public section

open Idealize.ShloMosaic Idealize.ShloMosaic.TcCoe Idealize.SL.Sem

/-- The idealized reference runs, from any memory, and leaves its arguments unchanged. -/
theorem Cert.Proof.frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Under the precondition the idealized kernel and the idealized reference, from memories that agree on the
    arguments, end with equal results and unchanged arguments. -/
theorem Cert.Proof.algebraic : Cert.algebraic_KernelIdeal_ReferenceIdeal := by
  intro m g m' g' hpre hargs
  refine ⟨fun c => Cert.KernelIdeal.Gen.W5 m g c (Proc.devRef .tc Cert.KernelIdeal.main_v38), Cert.KernelIdeal.Run.run m g,
    (θ_run Cert.ReferenceIdeal.defs _ _).mono (fun r h c => ⟨(h c).1.trans ?_, (h c).2⟩)
      (Cert.ReferenceIdeal.Value.run (F := Ideal) m' g')⟩
  refine (Cert.ReferenceIdeal.Read.val_main_v105_eq (F := Ideal) (fun b => m' (c, b))).trans ?_
  obtain ⟨h0, h1, h2, h3, h4, h5, h6, h7, h8, h9, h10, h11, h12⟩ := hargs c
  refine Eq.trans ?_ (Cert.Agree.result_eq m g c (hpre c)).symm
  unfold Cert.Agree.want
  rw [← h0, ← h1, ← h2, ← h3, ← h4, ← h5, ← h6, ← h7, ← h8, ← h9, ← h10, ← h11, ← h12]

/-- The certificate's claim: the frames of the kernel and of the two idealized programs, and the equality of the
    idealized kernel's result with the idealized reference's. -/
theorem Cert.Proof.claim : Cert.Claim :=
  ⟨Cert.Kernel.Gen.facts, Cert.KernelIdeal.Gen.facts, Cert.ReferenceIdeal.Gen.facts, Cert.Pre_no_tie.Gen.facts,
    fun m ρ _ => Cert.Kernel.Gen.frame m ρ,
    fun m ρ _ => Cert.Kernel.Gen.frame m ρ,
    fun m ρ _ => Cert.KernelIdeal.Gen.frame m ρ,
    Cert.Proof.frame_reference,
    fun m ρ _ => Cert.Proof.frame_reference m ρ trivial,
    trivial,
    Cert.Proof.algebraic⟩
